-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x256 : Shape := ⟨2, ![16384, 256]⟩
abbrev S4x1024x256 : Shape := ⟨3, ![4, 1024, 256]⟩
abbrev S_ : Shape := ⟨0, ![]⟩

class Facts : Prop where
  bcast_S_S16384x256 : S_.BroadcastsInDim S16384x256 (![] : Fin 0 → Fin S16384x256.rank)
  bcast_S_S4x1024x256 : S_.BroadcastsInDim S4x1024x256 (![] : Fin 0 → Fin S4x1024x256.rank)

variable [Facts]

def fn {F : FTy → Type} [FloatOps F] (main_arg0 : FVec F S16384x256 .f32) (main_arg1 : FVec F S4x1024x256 .f32) : IVec S16384x256 1 × IVec S4x1024x256 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_v3 : FVec F S4x1024x256 .f32 := Host.absf main_arg1
  let main_cst_0 : FVec F S_ .f32 := constant S_ .f32 0x7F800000#32
  let main_v4 : FVec F S4x1024x256 .f32 := broadcastInDim S4x1024x256 ![] bcast_S_S4x1024x256 main_cst_0
  let main_v5 : IVec S4x1024x256 1 := cmpf .olt main_v3 main_v4
  (main_v2, main_v5)
-- ==== Kernel.lean ====
abbrev S16384x256 : Shape := ⟨2, ![16384, 256]⟩
abbrev S4x1024x256 : Shape := ⟨3, ![4, 1024, 256]⟩
abbrev S_ : Shape := ⟨0, ![]⟩
abbrev S4x1024 : Shape := ⟨2, ![4, 1024]⟩
abbrev S4x1x1024 : Shape := ⟨3, ![4, 1, 1024]⟩
abbrev S4x8x1024 : Shape := ⟨3, ![4, 8, 1024]⟩
abbrev S16384x4 : Shape := ⟨2, ![16384, 4]⟩
abbrev S1x1 : Shape := ⟨2, ![1, 1]⟩
abbrev S1024x256 : Shape := ⟨2, ![1024, 256]⟩
abbrev S1024x4 : Shape := ⟨2, ![1024, 4]⟩
abbrev S1x1024x256 : Shape := ⟨3, ![1, 1024, 256]⟩
abbrev S1x8x1024 : Shape := ⟨3, ![1, 8, 1024]⟩
abbrev S8x1024 : Shape := ⟨2, ![8, 1024]⟩
abbrev S1x1024 : Shape := ⟨2, ![1, 1024]⟩
abbrev S1024 : Shape := ⟨1, ![1024]⟩
abbrev S1024x1 : Shape := ⟨2, ![1024, 1]⟩
abbrev S1024x1024 : Shape := ⟨2, ![1024, 1024]⟩
abbrev S1 : Shape := ⟨1, ![1]⟩
abbrev S1x1x1 : Shape := ⟨3, ![1, 1, 1]⟩

abbrev nBuf : Space → Nat
  | .hbm => 22
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S4x1024x256, .f32⟩
  | .hbm, ⟨2, _⟩ => ⟨S4x1024x256, .bf16⟩
  | .hbm, ⟨3, _⟩ => ⟨S4x1024x256, .f32⟩
  | .hbm, ⟨4, _⟩ => ⟨S4x1024x256, .f32⟩
  | .hbm, ⟨5, _⟩ => ⟨S4x1024x256, .bf16⟩
  | .hbm, ⟨6, _⟩ => ⟨S4x1024x256, .f32⟩
  | .hbm, ⟨7, _⟩ => ⟨S4x1024x256, .f32⟩
  | .hbm, ⟨8, _⟩ => ⟨S4x1024x256, .bf16⟩
  | .hbm, ⟨9, _⟩ => ⟨S4x1024x256, .f32⟩
  | .hbm, ⟨10, _⟩ => ⟨S_, .f32⟩
  | .hbm, ⟨11, _⟩ => ⟨S4x1024, .f32⟩
  | .hbm, ⟨12, _⟩ => ⟨S4x1x1024, .f32⟩
  | .hbm, ⟨13, _⟩ => ⟨S4x8x1024, .f32⟩
  | .hbm, ⟨14, _⟩ => ⟨S16384x256, .f32⟩
  | .hbm, ⟨15, _⟩ => ⟨S16384x4, .i32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S4x1024x256, .bf16⟩
  | .local _ .vmem, ⟨3, _⟩ => ⟨S4x1024x256, .bf16⟩
  | .local _ .vmem, ⟨4, _⟩ => ⟨S4x1024x256, .bf16⟩
  | .local _ .vmem, ⟨5, _⟩ => ⟨S4x8x1024, .f32⟩
  | .local _ .vmem, ⟨6, _⟩ => ⟨S1024x256, .f32⟩
  | .local _ .vmem, ⟨7, _⟩ => ⟨S1024x256, .f32⟩
  | .local _ .vmem, ⟨8, _⟩ => ⟨S1024x4, .i32⟩
  | .local _ .vmem, ⟨9, _⟩ => ⟨S1024x4, .i32⟩
  | .local _ .vmem, ⟨10, _⟩ => ⟨S1x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_cst : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_v0_0 : Ref sig .tc := ⟨.hbm, 14, rfl⟩
abbrev main_v0_1 : Ref sig .tc := ⟨.hbm, 15, rfl⟩
abbrev main_call0_v11_2 : Ref sig .tc := ⟨.hbm, 16, rfl⟩
abbrev main_call0_v12 : Ref sig .tc := ⟨.hbm, 17, rfl⟩
abbrev main_call0_cst_0 : Ref sig .tc := ⟨.hbm, 18, rfl⟩
abbrev main_call0_v13 : Ref sig .tc := ⟨.hbm, 19, rfl⟩
abbrev main_call0_cst_1 : Ref sig .tc := ⟨.hbm, 20, rfl⟩
abbrev main_v0_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x4 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x256 : Shape := ⟨2, ![16384, 256]⟩
abbrev S4x1024x256 : Shape := ⟨3, ![4, 1024, 256]⟩
abbrev S_ : Shape := ⟨0, ![]⟩
abbrev S1x1024x256 : Shape := ⟨3, ![1, 1024, 256]⟩
abbrev S1024x256 : Shape := ⟨2, ![1024, 256]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S256x1024 : Shape := ⟨2, ![256, 1024]⟩
abbrev S1 : Shape := ⟨1, ![1]⟩
abbrev S1x1 : Shape := ⟨2, ![1, 1]⟩
abbrev S16384x4 : Shape := ⟨2, ![16384, 4]⟩

abbrev nBuf : Space → Nat
  | .hbm => 270
  | .vmem => 0
  | .smem => 0
  | _ => 0

abbrev hbmTy0_0 (i : Nat) : BufTy := match i % 128 with
  | 0 => ⟨S16384x256, .f32⟩
  | 1 => ⟨S4x1024x256, .f32⟩
  | 2 => ⟨S_, .f32⟩
  | 3 => ⟨S16384x256, .f32⟩
  | 4 => ⟨S1x1024x256, .f32⟩
  | 5 => ⟨S1024x256, .f32⟩
  | 6 => ⟨S16384x256, .f32⟩
  | 7 => ⟨S_, .f32⟩
  | 8 => ⟨S16384, .f32⟩
  | 9 => ⟨S16384x1, .f32⟩
  | 10 => ⟨S1024x256, .f32⟩
  | 11 => ⟨S_, .f32⟩
  | 12 => ⟨S1024, .f32⟩
  | 13 => ⟨S1x1024, .f32⟩
  | 14 => ⟨S16384x1024, .f32⟩
  | 15 => ⟨S16384x1024, .f32⟩
  | 16 => ⟨S16384x1024, .f32⟩
  | 17 => ⟨S_, .f32⟩
  | 18 => ⟨S16384x256, .f32⟩
  | 19 => ⟨S16384x256, .f32⟩
  | 20 => ⟨S256x1024, .f32⟩
  | 21 => ⟨S16384x1024, .f32⟩
  | 22 => ⟨S16384x1024, .f32⟩
  | 23 => ⟨S16384x1024, .i32⟩
  | 24 => ⟨S_, .f32⟩
  | 25 => ⟨S_, .i32⟩
  | 26 => ⟨S16384, .f32⟩
  | 27 => ⟨S16384, .i32⟩
  | 28 => ⟨S_, .i32⟩
  | 29 => ⟨S16384, .i32⟩
  | 30 => ⟨S16384, .i1⟩
  | 31 => ⟨S_, .i32⟩
  | 32 => ⟨S16384, .i32⟩
  | 33 => ⟨S16384, .i32⟩
  | 34 => ⟨S16384, .i32⟩
  | 35 => ⟨S16384x1, .i32⟩
  | 36 => ⟨S1, .i32⟩
  | 37 => ⟨S_, .i32⟩
  | 38 => ⟨S16384x1, .i32⟩
  | 39 => ⟨S16384x1, .i1⟩
  | 40 => ⟨S1x1, .i32⟩
  | 41 => ⟨S16384x1, .i32⟩
  | 42 => ⟨S16384x1, .i1⟩
  | 43 => ⟨S16384x1, .i1⟩
  | 44 => ⟨S_, .i1⟩
  | 45 => ⟨S16384, .i1⟩
  | 46 => ⟨S16384x256, .f32⟩
  | 47 => ⟨S16384x256, .i1⟩
  | 48 => ⟨S_, .f32⟩
  | 49 => ⟨S16384x256, .f32⟩
  | 50 => ⟨S16384x256, .f32⟩
  | 51 => ⟨S16384x256, .f32⟩
  | 52 => ⟨S16384x256, .f32⟩
  | 53 => ⟨S_, .f32⟩
  | 54 => ⟨S_, .f32⟩
  | 55 => ⟨S_, .f32⟩
  | 56 => ⟨S_, .f32⟩
  | 57 => ⟨S16384x256, .f32⟩
  | 58 => ⟨S16384x256, .f32⟩
  | 59 => ⟨S_, .f32⟩
  | 60 => ⟨S_, .f32⟩
  | 61 => ⟨S_, .f32⟩
  | 62 => ⟨S_, .f32⟩
  | 63 => ⟨S_, .f32⟩
  | 64 => ⟨S16384x256, .f32⟩
  | 65 => ⟨S16384x256, .f32⟩
  | 66 => ⟨S16384x256, .f32⟩
  | 67 => ⟨S16384x256, .f32⟩
  | 68 => ⟨S_, .f32⟩
  | 69 => ⟨S_, .f32⟩
  | 70 => ⟨S1x1024x256, .f32⟩
  | 71 => ⟨S1024x256, .f32⟩
  | 72 => ⟨S16384x256, .f32⟩
  | 73 => ⟨S_, .f32⟩
  | 74 => ⟨S16384, .f32⟩
  | 75 => ⟨S16384x1, .f32⟩
  | 76 => ⟨S1024x256, .f32⟩
  | 77 => ⟨S_, .f32⟩
  | 78 => ⟨S1024, .f32⟩
  | 79 => ⟨S1x1024, .f32⟩
  | 80 => ⟨S16384x1024, .f32⟩
  | 81 => ⟨S16384x1024, .f32⟩
  | 82 => ⟨S16384x1024, .f32⟩
  | 83 => ⟨S_, .f32⟩
  | 84 => ⟨S16384x256, .f32⟩
  | 85 => ⟨S16384x256, .f32⟩
  | 86 => ⟨S256x1024, .f32⟩
  | 87 => ⟨S16384x1024, .f32⟩
  | 88 => ⟨S16384x1024, .f32⟩
  | 89 => ⟨S16384x1024, .i32⟩
  | 90 => ⟨S_, .f32⟩
  | 91 => ⟨S_, .i32⟩
  | 92 => ⟨S16384, .f32⟩
  | 93 => ⟨S16384, .i32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S1, .i32⟩
  | 103 => ⟨S_, .i32⟩
  | 104 => ⟨S16384x1, .i32⟩
  | 105 => ⟨S16384x1, .i1⟩
  | 106 => ⟨S1x1, .i32⟩
  | 107 => ⟨S16384x1, .i32⟩
  | 108 => ⟨S16384x1, .i1⟩
  | 109 => ⟨S16384x1, .i1⟩
  | 110 => ⟨S_, .i1⟩
  | 111 => ⟨S16384, .i1⟩
  | 112 => ⟨S16384x256, .f32⟩
  | 113 => ⟨S16384x256, .i1⟩
  | 114 => ⟨S_, .f32⟩
  | 115 => ⟨S16384x256, .f32⟩
  | 116 => ⟨S16384x256, .f32⟩
  | 117 => ⟨S16384x256, .f32⟩
  | 118 => ⟨S16384x256, .f32⟩
  | 119 => ⟨S_, .f32⟩
  | 120 => ⟨S_, .f32⟩
  | 121 => ⟨S_, .f32⟩
  | 122 => ⟨S_, .f32⟩
  | 123 => ⟨S16384x256, .f32⟩
  | 124 => ⟨S16384x256, .f32⟩
  | 125 => ⟨S_, .f32⟩
  | 126 => ⟨S_, .f32⟩
  | 127 => ⟨S_, .f32⟩
  | _ => ⟨S16384x256, .f32⟩

abbrev hbmTy0_1 (i : Nat) : BufTy := match i % 128 with
  | 0 => ⟨S_, .f32⟩
  | 1 => ⟨S_, .f32⟩
  | 2 => ⟨S16384x256, .f32⟩
  | 3 => ⟨S16384x256, .f32⟩
  | 4 => ⟨S16384x256, .f32⟩
  | 5 => ⟨S16384x256, .f32⟩
  | 6 => ⟨S_, .f32⟩
  | 7 => ⟨S1x1024x256, .f32⟩
  | 8 => ⟨S1024x256, .f32⟩
  | 9 => ⟨S16384x256, .f32⟩
  | 10 => ⟨S_, .f32⟩
  | 11 => ⟨S16384, .f32⟩
  | 12 => ⟨S16384x1, .f32⟩
  | 13 => ⟨S1024x256, .f32⟩
  | 14 => ⟨S_, .f32⟩
  | 15 => ⟨S1024, .f32⟩
  | 16 => ⟨S1x1024, .f32⟩
  | 17 => ⟨S16384x1024, .f32⟩
  | 18 => ⟨S16384x1024, .f32⟩
  | 19 => ⟨S16384x1024, .f32⟩
  | 20 => ⟨S_, .f32⟩
  | 21 => ⟨S16384x256, .f32⟩
  | 22 => ⟨S16384x256, .f32⟩
  | 23 => ⟨S256x1024, .f32⟩
  | 24 => ⟨S16384x1024, .f32⟩
  | 25 => ⟨S16384x1024, .f32⟩
  | 26 => ⟨S16384x1024, .i32⟩
  | 27 => ⟨S_, .f32⟩
  | 28 => ⟨S_, .i32⟩
  | 29 => ⟨S16384, .f32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S1, .i32⟩
  | 40 => ⟨S_, .i32⟩
  | 41 => ⟨S16384x1, .i32⟩
  | 42 => ⟨S16384x1, .i1⟩
  | 43 => ⟨S1x1, .i32⟩
  | 44 => ⟨S16384x1, .i32⟩
  | 45 => ⟨S16384x1, .i1⟩
  | 46 => ⟨S16384x1, .i1⟩
  | 47 => ⟨S_, .i1⟩
  | 48 => ⟨S16384, .i1⟩
  | 49 => ⟨S16384x256, .f32⟩
  | 50 => ⟨S16384x256, .i1⟩
  | 51 => ⟨S_, .f32⟩
  | 52 => ⟨S16384x256, .f32⟩
  | 53 => ⟨S16384x256, .f32⟩
  | 54 => ⟨S16384x256, .f32⟩
  | 55 => ⟨S16384x256, .f32⟩
  | 56 => ⟨S_, .f32⟩
  | 57 => ⟨S_, .f32⟩
  | 58 => ⟨S_, .f32⟩
  | 59 => ⟨S_, .f32⟩
  | 60 => ⟨S16384x256, .f32⟩
  | 61 => ⟨S16384x256, .f32⟩
  | 62 => ⟨S_, .f32⟩
  | 63 => ⟨S_, .f32⟩
  | 64 => ⟨S_, .f32⟩
  | 65 => ⟨S_, .f32⟩
  | 66 => ⟨S_, .f32⟩
  | 67 => ⟨S16384x256, .f32⟩
  | 68 => ⟨S16384x256, .f32⟩
  | 69 => ⟨S16384x256, .f32⟩
  | 70 => ⟨S16384x256, .f32⟩
  | 71 => ⟨S_, .f32⟩
  | 72 => ⟨S1x1024x256, .f32⟩
  | 73 => ⟨S1024x256, .f32⟩
  | 74 => ⟨S16384x256, .f32⟩
  | 75 => ⟨S_, .f32⟩
  | 76 => ⟨S16384, .f32⟩
  | 77 => ⟨S16384x1, .f32⟩
  | 78 => ⟨S1024x256, .f32⟩
  | 79 => ⟨S_, .f32⟩
  | 80 => ⟨S1024, .f32⟩
  | 81 => ⟨S1x1024, .f32⟩
  | 82 => ⟨S16384x1024, .f32⟩
  | 83 => ⟨S16384x1024, .f32⟩
  | 84 => ⟨S16384x1024, .f32⟩
  | 85 => ⟨S_, .f32⟩
  | 86 => ⟨S16384x256, .f32⟩
  | 87 => ⟨S16384x256, .f32⟩
  | 88 => ⟨S256x1024, .f32⟩
  | 89 => ⟨S16384x1024, .f32⟩
  | 90 => ⟨S16384x1024, .f32⟩
  | 91 => ⟨S16384x1024, .i32⟩
  | 92 => ⟨S_, .f32⟩
  | 93 => ⟨S_, .i32⟩
  | 94 => ⟨S16384, .f32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S1, .i32⟩
  | 105 => ⟨S_, .i32⟩
  | 106 => ⟨S16384x1, .i32⟩
  | 107 => ⟨S16384x1, .i1⟩
  | 108 => ⟨S1x1, .i32⟩
  | 109 => ⟨S16384x1, .i32⟩
  | 110 => ⟨S16384x1, .i1⟩
  | 111 => ⟨S16384x1, .i1⟩
  | 112 => ⟨S_, .i1⟩
  | 113 => ⟨S16384, .i1⟩
  | 114 => ⟨S16384x256, .f32⟩
  | 115 => ⟨S16384x256, .i1⟩
  | 116 => ⟨S_, .f32⟩
  | 117 => ⟨S16384x256, .f32⟩
  | 118 => ⟨S16384x256, .f32⟩
  | 119 => ⟨S16384x256, .f32⟩
  | 120 => ⟨S16384x256, .f32⟩
  | 121 => ⟨S_, .f32⟩
  | 122 => ⟨S_, .f32⟩
  | 123 => ⟨S_, .f32⟩
  | 124 => ⟨S_, .f32⟩
  | 125 => ⟨S16384x256, .f32⟩
  | 126 => ⟨S16384x256, .f32⟩
  | 127 => ⟨S_, .f32⟩
  | _ => ⟨S16384x256, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S16384x256, .f32⟩
  | 5 => ⟨S16384x256, .f32⟩
  | 6 => ⟨S16384x256, .f32⟩
  | 7 => ⟨S16384x256, .f32⟩
  | 8 => ⟨S_, .f32⟩
  | 9 => ⟨S16384x1, .i32⟩
  | 10 => ⟨S16384x1, .i32⟩
  | 11 => ⟨S16384x1, .i32⟩
  | 12 => ⟨S16384x1, .i32⟩
  | 13 => ⟨S16384x4, .i32⟩
  | _ => ⟨S16384x256, .f32⟩

abbrev hbmTy (i : Nat) : BufTy := match i / 128 with
  | 0 => hbmTy0_0 i
  | 1 => hbmTy0_1 i
  | 2 => hbmTy0_2 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_7 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_8 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_9 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_cst_10 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call2_v0 : Ref sig .tc := ⟨.hbm, 89, rfl⟩
abbrev main_call2_cst : Ref sig .tc := ⟨.hbm, 90, rfl⟩
abbrev main_call2_c : Ref sig .tc := ⟨.hbm, 91, rfl⟩
abbrev main_call2_v1_0 : Ref sig .tc := ⟨.hbm, 92, rfl⟩
abbrev main_v49 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_11 : Ref sig .tc := ⟨.hbm, 119, rfl⟩
abbrev main_v53 : Ref sig .tc := ⟨.hbm, 120, rfl⟩
abbrev main_cst_12 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_cst_13 : Ref sig .tc := ⟨.hbm, 125, rfl⟩
abbrev main_v57 : Ref sig .tc := ⟨.hbm, 126, rfl⟩
abbrev main_cst_14 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_cst_15 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_cst_16 : Ref sig .tc := ⟨.hbm, 142, rfl⟩
abbrev main_v71 : Ref sig .tc := ⟨.hbm, 143, rfl⟩
abbrev main_v72 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_cst_17 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_call4_v0 : Ref sig .tc := ⟨.hbm, 154, rfl⟩
abbrev main_call4_cst : Ref sig .tc := ⟨.hbm, 155, rfl⟩
abbrev main_call4_c : Ref sig .tc := ⟨.hbm, 156, rfl⟩
abbrev main_call4_v1_0 : Ref sig .tc := ⟨.hbm, 157, rfl⟩
abbrev main_v81 : Ref sig .tc := ⟨.hbm, 158, rfl⟩
abbrev main_call5_c : Ref sig .tc := ⟨.hbm, 159, rfl⟩
abbrev main_call5_v0 : Ref sig .tc := ⟨.hbm, 160, rfl⟩
abbrev main_call5_v1 : Ref sig .tc := ⟨.hbm, 161, rfl⟩
abbrev main_call5_c_0 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_c_1 : Ref sig .tc := ⟨.hbm, 167, rfl⟩
abbrev main_call5_c_2 : Ref sig .tc := ⟨.hbm, 168, rfl⟩
abbrev main_call5_v6 : Ref sig .tc := ⟨.hbm, 169, rfl⟩
abbrev main_call5_v7 : Ref sig .tc := ⟨.hbm, 170, rfl⟩
abbrev main_call5_v8 : Ref sig .tc := ⟨.hbm, 171, rfl⟩
abbrev main_call5_v9 : Ref sig .tc := ⟨.hbm, 172, rfl⟩
abbrev main_call5_v10 : Ref sig .tc := ⟨.hbm, 173, rfl⟩
abbrev main_call5_v11 : Ref sig .tc := ⟨.hbm, 174, rfl⟩
abbrev main_call5_c_3 : Ref sig .tc := ⟨.hbm, 175, rfl⟩
abbrev main_call5_v12 : Ref sig .tc := ⟨.hbm, 176, rfl⟩
abbrev main_call5_v13 : Ref sig .tc := ⟨.hbm, 177, rfl⟩
abbrev main_call5_v14 : Ref sig .tc := ⟨.hbm, 178, rfl⟩
abbrev main_call5_cst : Ref sig .tc := ⟨.hbm, 179, rfl⟩
abbrev main_call5_v15 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_cst_18 : Ref sig .tc := ⟨.hbm, 184, rfl⟩
abbrev main_v85 : Ref sig .tc := ⟨.hbm, 185, rfl⟩
abbrev main_cst_19 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_cst_20 : Ref sig .tc := ⟨.hbm, 190, rfl⟩
abbrev main_v89 : Ref sig .tc := ⟨.hbm, 191, rfl⟩
abbrev main_cst_21 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_cst_22 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_cst_23 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_cst_24 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_call6_v0 : Ref sig .tc := ⟨.hbm, 219, rfl⟩
abbrev main_call6_cst : Ref sig .tc := ⟨.hbm, 220, rfl⟩
abbrev main_call6_c : Ref sig .tc := ⟨.hbm, 221, rfl⟩
abbrev main_call6_v1_0 : Ref sig .tc := ⟨.hbm, 222, rfl⟩
abbrev main_v113 : Ref sig .tc := ⟨.hbm, 223, rfl⟩
abbrev main_call7_c : Ref sig .tc := ⟨.hbm, 224, rfl⟩
abbrev main_call7_v0 : Ref sig .tc := ⟨.hbm, 225, rfl⟩
abbrev main_call7_v1 : Ref sig .tc := ⟨.hbm, 226, rfl⟩
abbrev main_call7_c_0 : Ref sig .tc := ⟨.hbm, 227, rfl⟩
abbrev main_call7_v2 : Ref sig .tc := ⟨.hbm, 228, rfl⟩
abbrev main_call7_v3 : Ref sig .tc := ⟨.hbm, 229, rfl⟩
abbrev main_call7_v4 : Ref sig .tc := ⟨.hbm, 230, rfl⟩
abbrev main_call7_v5 : Ref sig .tc := ⟨.hbm, 231, rfl⟩
abbrev main_call7_c_1 : Ref sig .tc := ⟨.hbm, 232, rfl⟩
abbrev main_call7_c_2 : Ref sig .tc := ⟨.hbm, 233, rfl⟩
abbrev main_call7_v6 : Ref sig .tc := ⟨.hbm, 234, rfl⟩
abbrev main_call7_v7 : Ref sig .tc := ⟨.hbm, 235, rfl⟩
abbrev main_call7_v8 : Ref sig .tc := ⟨.hbm, 236, rfl⟩
abbrev main_call7_v9 : Ref sig .tc := ⟨.hbm, 237, rfl⟩
abbrev main_call7_v10 : Ref sig .tc := ⟨.hbm, 238, rfl⟩
abbrev main_call7_v11 : Ref sig .tc := ⟨.hbm, 239, rfl⟩
abbrev main_call7_c_3 : Ref sig .tc := ⟨.hbm, 240, rfl⟩
abbrev main_call7_v12 : Ref sig .tc := ⟨.hbm, 241, rfl⟩
abbrev main_call7_v13 : Ref sig .tc := ⟨.hbm, 242, rfl⟩
abbrev main_call7_v14 : Ref sig .tc := ⟨.hbm, 243, rfl⟩
abbrev main_call7_cst : Ref sig .tc := ⟨.hbm, 244, rfl⟩
abbrev main_call7_v15 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_cst_25 : Ref sig .tc := ⟨.hbm, 249, rfl⟩
abbrev main_v117 : Ref sig .tc := ⟨.hbm, 250, rfl⟩
abbrev main_cst_26 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_cst_27 : Ref sig .tc := ⟨.hbm, 255, rfl⟩
abbrev main_v121 : Ref sig .tc := ⟨.hbm, 256, rfl⟩
abbrev main_cst_28 : Ref sig .tc := ⟨.hbm, 257, rfl⟩
abbrev main_v122 : Ref sig .tc := ⟨.hbm, 258, rfl⟩
abbrev main_v123 : Ref sig .tc := ⟨.hbm, 259, rfl⟩
abbrev main_v124 : Ref sig .tc := ⟨.hbm, 260, rfl⟩
abbrev main_v125 : Ref sig .tc := ⟨.hbm, 261, rfl⟩
abbrev main_v126 : Ref sig .tc := ⟨.hbm, 262, rfl⟩
abbrev main_v127 : Ref sig .tc := ⟨.hbm, 263, rfl⟩
abbrev main_v128 : Ref sig .tc := ⟨.hbm, 264, rfl⟩
abbrev main_v129 : Ref sig .tc := ⟨.hbm, 265, rfl⟩
abbrev main_v130 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩

abbrev nD : Nat := 1
abbrev τ : Topo := Topo.v7x

variable {F : FTy → Type} [FloatOps F]
-- ==== Proof.Spec.lean ====
/- Residual vector quantization of one row, over the real numbers: four codebooks, and at each level the nearest code of
   what the levels before left over. -/
module

public import Mathlib.Data.Real.Basic
public import Mathlib.Data.EReal.Operations
public import Mathlib.Data.Fintype.EquivFin
public import Mathlib.Order.Preorder.Finite
public import Mathlib.Algebra.BigOperators.Group.Finset.Basic
public import Mathlib.Data.Fintype.Lattice

@[expose] public section

noncomputable section

namespace Cert.Rvq

/-- A row of the input, of a codebook, or of the reconstruction. -/
abbrev Row := Fin 256 → ℝ

/-- A codebook. -/
abbrev Book := Fin 1024 → Row

/-- `k` is the first place where `g` is smallest: no value is smaller, and every place with the same value comes later. -/
def IsFirstMin (g : Fin 1024 → ℝ) (k : Fin 1024) : Prop := ∀ i, g k < g i ∨ (g k = g i ∧ k ≤ i)

/-- A first smallest place exists. -/
theorem exists_firstMin (g : Fin 1024 → ℝ) : ∃ k, IsFirstMin g k := by
  obtain ⟨m, hm⟩ := Finite.exists_min g
  obtain ⟨k, hk, hmin⟩ := Finset.exists_minimal (s := Finset.univ.filter fun i => g i = g m) ⟨m, by simp⟩
  simp only [Finset.mem_filter, Finset.mem_univ, true_and] at hk hmin
  refine ⟨k, fun i => ?_⟩
  rcases lt_or_eq_of_le (hm i) with h | h
  · left; rw [hk]; exact h
  · right
    refine ⟨hk.trans h, ?_⟩
    rcases le_total k i with h' | h'
    · exact h'
    · exact hmin h.symm h'

/-- Two first smallest places are the same. -/
theorem IsFirstMin.unique {g : Fin 1024 → ℝ} {k l : Fin 1024} (hk : IsFirstMin g k) (hl : IsFirstMin g l) : k = l := by
  rcases hk l with h | ⟨h, h'⟩ <;> rcases hl k with e | ⟨e, e'⟩
  · exact absurd h (not_lt.mpr e.le)
  · exact absurd h (by simp [e])
  · exact absurd e (by simp [h])
  · exact le_antisymm h' e'

/-- The first place where `g` is smallest. -/
def firstMin (g : Fin 1024 → ℝ) : Fin 1024 := (exists_firstMin g).choose

/-- `firstMin` is the first smallest place. -/
theorem firstMin_spec (g : Fin 1024 → ℝ) : IsFirstMin g (firstMin g) := (exists_firstMin g).choose_spec

/-- The squared distance of a row to a code, multiplied out. -/
def sqDist (r : Row) (C : Book) (j : Fin 1024) : ℝ :=
  (∑ d, r d * r d + ∑ d, C j d * C j d) - ∑ d, 2 * r d * C j d

/-- The code of a row: the first of its nearest codes. -/
def code (r : Row) (C : Book) : Fin 1024 := firstMin (sqDist r C)

/-- The reconstruction of `x` by the first `k` codebooks. -/
def recon (B : ℕ → Book) (x : Row) : ℕ → Row
  | 0 => fun _ => 0
  | k + 1 => fun d => recon B x k d + B k (code (fun e => x e - recon B x k e) (B k)) d

/-- What the first `k` codebooks leave of `x`. -/
def rest (B : ℕ → Book) (x : Row) (k : ℕ) : Row := fun d => x d - recon B x k d

/-- The code that level `k` gives `x`. -/
def codeAt (B : ℕ → Book) (x : Row) (k : ℕ) : Fin 1024 := code (rest B x k) (B k)

/-- The square error of level `k` on `x`. -/
def err (B : ℕ → Book) (x : Row) (k : ℕ) : ℝ :=
  ∑ d, (B k (codeAt B x k) d - rest B x k d) * (B k (codeAt B x k) d - rest B x k d)

/-- Before the first level all of `x` is left. -/
theorem rest_zero (B : ℕ → Book) (x : Row) : rest B x 0 = x := by
  funext d; simp [rest, recon]

/-- One more level of the reconstruction. -/
theorem recon_succ (B : ℕ → Book) (x : Row) (k : ℕ) (d : Fin 256) :
    recon B x (k + 1) d = recon B x k d + B k (codeAt B x k) d := rfl

/-- A sum of reals is the same sum of extended reals. -/
theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

end Cert.Rvq
-- ==== Proof.Finite.lean ====
/- What the precondition says: every entry of the arguments is a real number. -/
module

public import proofs.«01_k».proof.Defs
public import proofs.«01_k».proof.Proof.Spec
public import Idealize.ShloMosaic.Lib.Pipeline.ValueKit

@[expose] public section

set_option maxRecDepth 16384

noncomputable section

namespace Cert.Rvq

open Idealize.ShloMosaic Idealize.ShloMosaic.TcCoe Idealize.SL.Sem Cert.Pre_finite

/-- The side conditions of the precondition hold. -/
theorem finiteFacts : Cert.Pre_finite.Facts := ⟨by decide, by decide⟩

/-- An extended real whose size is below infinity is a real number. -/
theorem real_of_lt (x : EReal) (h : Ideal.cmp .olt (max x (-x)) (Ideal.ofBits .f32 0x7F800000#32) = 1#1) :
    x = ((x.toReal : ℝ) : EReal) := by
  have ht : Ideal.ofBits .f32 0x7F800000#32 = ⊤ := by simp [Ideal.ofBits, Ideal.ieee]
  rw [ht] at h
  have h' : max x (-x) < ⊤ := by
    by_contra hn
    change BitVec.ofBool (decide (max x (-x) < ⊤)) = 1#1 at h
    rw [decide_eq_false hn] at h
    exact absurd h (by decide)
  refine (EReal.coe_toReal (fun e => ?_) (fun e => ?_)).symm <;> subst e <;> simp at h'

/-- Where the precondition holds, the entries of both arguments are real numbers. -/
theorem finite_real (x : FVec Ideal S16384x256 .f32) (b : FVec Ideal S4x1024x256 .f32) (hF : Cert.Pre_finite.Facts)
    (h : (fn (F := Ideal) x b).1 = (fun _ => 1#1) ∧ (fn (F := Ideal) x b).2 = (fun _ => 1#1)) :
    (∀ i d, x (ix2 i d) = (((x (ix2 i d)).toReal : ℝ) : EReal)) ∧
      ∀ k j d, b (ix3 k j d) = (((b (ix3 k j d)).toReal : ℝ) : EReal) :=
  ⟨fun i d => real_of_lt _ (congrFun h.1 (ix2 i d)), fun k j d => real_of_lt _ (congrFun h.2 (ix3 k j d))⟩

end Cert.Rvq
-- ==== Proof.KerLevel.lean ====
/- One level of the kernel's block: distances, codes, one-hot rows, the rows that the one-hot product selects, and the
   square error, each on real values. -/
module

public import proofs.«01_k».proof.Proof.Spec
public import proofs.«01_k».proof.Proof.Gen.KernelIdeal.Skeleton
public import Idealize.ShloMosaic.Lib.Pointwise
public import Idealize.ShloMosaic.Lib.SortNet.Extract

@[expose] public section

set_option maxRecDepth 16384

noncomputable section

namespace Cert.Rvq.Ker

open Idealize.ShloMosaic
open Cert.KernelIdeal Cert.KernelIdeal.Gen

/-- The square sums of the residual rows and of the codes, added. -/
def squaresV (r : FVec Ideal S1024x256 .f32) (c : Vec Ideal S1x8x1024 .f32) : FVec Ideal S1024x1024 .f32 :=
  addf
    (broadcastTo S1024x1024
      (shapeCast S1024x1
        (multiReduction .add [1] S1024 (mulf r r) 0x00000000#32 reduces_S1024x256_S1024 (.inl rfl) rfl)
        shapeCasts_S1024_S1024x1)
      broadcasts_S1024x1_S1024x1024)
    (broadcastTo S1024x1024
      (extractStridedSlice S1x1024 ![0, 0] (shapeCast S8x1024 c shapeCasts_S1x8x1024_S8x1024)
        slices_S8x1024_o0_0_S1x1024)
      broadcasts_S1x1024_S1024x1024)

/-- The products of the residual rows with the codes. -/
def crossV (r : FVec Ideal S1024x256 .f32) (h : FVec Ideal S1024x256 .bf16) : FVec Ideal S1024x1024 .f32 :=
  matmul dot_S1024x256_S1024x256_S1024x1024_1_1_0_0_n_n none (truncf .bf16 r bitsLt_bf16_f32) h
    (constant S1024x1024 .f32 0x00000000#32)

/-- The distances of the residual rows `r` to the codes `h`, whose square sums are the rows of `c`. -/
def distV (r : FVec Ideal S1024x256 .f32) (h : FVec Ideal S1024x256 .bf16) (c : Vec Ideal S1x8x1024 .f32) :
    FVec Ideal S1024x1024 .f32 :=
  subf (squaresV r c) (mulf (broadcast S1024x1024 (Scalar.ofBits .f32 0x40000000#32)) (crossV r h))

/-- The column numbers. -/
def colV : IVec S1024x1024 32 := iota .tc S1024x1024 32 [1] iota_S1024x1024_d1_w32

/-- The places where every row of distances is smallest. -/
def maskV (D : FVec Ideal S1024x1024 .f32) : IVec S1024x1024 1 :=
  cmpf .oeq D
    (broadcastTo S1024x1024
      (shapeCast S1024x1
        (multiReduction .minimumf [1] S1024 D 0x7F800000#32 reduces_S1024x1024_S1024 (.inl rfl) rfl)
        shapeCasts_S1024_S1024x1)
      broadcasts_S1024x1_S1024x1024)

/-- The first column that a mask names in every row. -/
def firstV (M : IVec S1024x1024 1) : IVec S1024 32 :=
  multiReductionI .minsi [1] S1024 (select M colV (broadcast S1024x1024 1024#32)) 2147483647#32
    reduces_S1024x1024_S1024 rfl

/-- The one-hot rows of codes. -/
def hotV (k : IVec S1024 32) : FVec Ideal S1024x1024 .bf16 :=
  truncf .bf16
    (sitofp (F := Ideal) .f32
      (extui 32
        (cmpi .eq colV
          (broadcastTo S1024x1024 (shapeCast S1024x1 k shapeCasts_S1024_S1024x1) broadcasts_S1024x1_S1024x1024))
        natLt_1_32))
    bitsLt_bf16_f32

/-- The rows that one-hot rows select from a codebook given in three parts. -/
def rowV (o : FVec Ideal S1024x1024 .bf16) (h m l : FVec Ideal S1024x256 .bf16) : FVec Ideal S1024x256 .f32 :=
  addf
    (addf
      (matmul dot_S1024x1024_S1024x256_S1024x256_1_0_0_1_n_n none o h (constant S1024x256 .f32 0x00000000#32))
      (matmul dot_S1024x1024_S1024x256_S1024x256_1_0_0_1_n_n none o m (constant S1024x256 .f32 0x00000000#32)))
    (matmul dot_S1024x1024_S1024x256_S1024x256_1_0_0_1_n_n none o l (constant S1024x256 .f32 0x00000000#32))

/-- The sum of the square differences of two blocks. -/
def sqV (q r : FVec Ideal S1024x256 .f32) : Ideal .f32 :=
  extractAt ![0, 0, 0]
    (shapeCast S1x1x1
      (multiReduction .add [1, 2] S1
        (shapeCast S1x1024x256 (mulf (subf q r) (subf q r)) shapeCasts_S1024x256_S1x1024x256)
        0x00000000#32 reduces_S1x1024x256_S1 (.inl rfl) rfl)
      shapeCasts_S1_S1x1x1)
    inpos_S1x1x1_p0_0_0

/-- One codebook part out of the stack of one. -/
def partV (h : Vec Ideal S1x1024x256 .bf16) : FVec Ideal S1024x256 .bf16 :=
  shapeCast S1024x256 h shapeCasts_S1x1024x256_S1024x256

/-- The word of two. -/
theorem ofBits_two : Ideal.ofBits .f32 0x40000000#32 = ((2 : ℝ) : EReal) := by
  simp [Ideal.ofBits, Ideal.ieee, -EReal.coe_mul]; norm_num

/-- The word of infinity. -/
theorem ofBits_top : Ideal.ofBits .f32 0x7F800000#32 = ⊤ := by
  simp [Ideal.ofBits, Ideal.ieee]

/-- The distances of real rows to real codes are the real distances. -/
theorem distV_apply (r : FVec Ideal S1024x256 .f32) (h : FVec Ideal S1024x256 .bf16) (c : Vec Ideal S1x8x1024 .f32)
    (R : Fin 1024 → Row) (C : Book) (hr : ∀ i d, r (ix2 i d) = (R i d : EReal))
    (hh : ∀ j d, h (ix2 j d) = (C j d : EReal)) (hc : ∀ j, c (ix3 0 0 j) = ((∑ d, C j d * C j d : ℝ) : EReal))
    (i j : Fin 1024) : distV r h c (ix2 i j) = (sqDist (R i) C j : EReal) := by
  unfold distV squaresV crossV
  pointwise
  simp only [hr, hh, hc, ofBits_two, sqDist, ← EReal.coe_mul, ← coe_sum, ← EReal.coe_add, ← EReal.coe_sub,
    Finset.mul_sum, mul_assoc]

/-- The smallest of finitely many reals, as a fold from infinity. -/
theorem fold_min_eq (g : Fin 1024 → ℝ) (f : Fin 1024 → EReal) (hf : ∀ x, f x = (g x : EReal)) :
    Finset.fold min ⊤ f Finset.univ = (g (firstMin g) : EReal) := by
  apply le_antisymm
  · rw [Finset.fold_min_le]
    exact Or.inr ⟨firstMin g, Finset.mem_univ _, (hf _).le⟩
  · rw [Finset.le_fold_min]
    refine ⟨le_top, fun x _ => ?_⟩
    rw [hf]
    rcases firstMin_spec g x with h | ⟨h, _⟩
    · exact EReal.coe_le_coe_iff.mpr h.le
    · exact EReal.coe_le_coe_iff.mpr h.le

/-- The first smallest place, as a fold of signed minima over the places that attain the minimum. -/
theorem fold_minsi_eq (g : Fin 1024 → ℝ) :
    Finset.fold IntOp.minsi 2147483647#32
        (fun x : Fin 1024 => if (g x : EReal) = (g (firstMin g) : EReal) then BitVec.ofNat 32 x.val else 1024#32)
        Finset.univ = BitVec.ofNat 32 (firstMin g).val := by
  have hw : ∀ k : Fin 1024, (BitVec.ofNat 32 k.val).toInt = (k.val : ℤ) := fun k => by
    have := k.isLt
    rw [BitVec.toInt_eq_toNat_of_lt] <;> simp only [BitVec.toNat_ofNat] <;> omega
  apply BitVec.eq_of_toInt_eq
  rw [← Finset.fold_hom (op := IntOp.minsi) (op' := min) (m := BitVec.toInt) (fun a b => SortNet.toInt_minsi a b), hw]
  apply le_antisymm
  · rw [Finset.fold_min_le]
    refine Or.inr ⟨firstMin g, Finset.mem_univ _, ?_⟩
    rw [if_pos rfl, hw]
  · rw [Finset.le_fold_min]
    have hK := (firstMin g).isLt
    refine ⟨by rw [show (2147483647#32).toInt = 2147483647 by decide]; omega, fun x _ => ?_⟩
    split_ifs with h
    · rw [hw]
      rcases firstMin_spec g x with h' | ⟨_, h'⟩
      · exact absurd (EReal.coe_eq_coe_iff.mp h) h'.ne'
      · exact_mod_cast h'
    · rw [show (1024#32).toInt = 1024 by decide]; omega

/-- The code that the kernel takes is the first smallest place. -/
theorem codeV_apply (D : FVec Ideal S1024x1024 .f32) (i : Fin 1024) (g : Fin 1024 → ℝ)
    (hD : ∀ j, D (ix2 i j) = (g j : EReal)) :
    firstV (maskV D) (ix1 i) = BitVec.ofNat 32 (firstMin g).val := by
  unfold firstV maskV colV
  pointwise
  rw [ofBits_top, fold_min_eq g (fun x => D (ix2 i x)) hD]
  simp only [hD]
  exact fold_minsi_eq g

/-- A one-hot row is one at its code and zero elsewhere. -/
theorem hotV_apply (k : IVec S1024 32) (i j K : Fin 1024) (hk : k (ix1 i) = BitVec.ofNat 32 K.val) :
    hotV k (ix2 i j) = ((if j = K then (1 : ℝ) else 0 : ℝ) : EReal) := by
  unfold hotV colV
  pointwise
  rw [hk]
  have hj := j.isLt
  have hK := K.isLt
  by_cases h : j = K
  · subst h
    rw [show IntOp.cmpi .eq (BitVec.ofNat 32 j.val) (BitVec.ofNat 32 j.val) = 1#1 by simp [IntOp.cmpi], if_pos rfl]
    show (((1#32).toInt : ℝ) : EReal) = _
    rw [show (1#32).toInt = 1 by decide, Int.cast_one]
  · have hne : ¬ BitVec.ofNat 32 j.val = BitVec.ofNat 32 K.val := fun e => h (Fin.ext (by
      have := congrArg BitVec.toNat e
      simp only [BitVec.toNat_ofNat] at this
      omega))
    rw [show IntOp.cmpi .eq (BitVec.ofNat 32 j.val) (BitVec.ofNat 32 K.val) = 0#1 by
      simp only [IntOp.cmpi, beq_false_of_ne hne]; rfl, if_neg h]
    show (((0#32).toInt : ℝ) : EReal) = _
    rw [show (0#32).toInt = 0 by decide, Int.cast_zero]

/-- The one-hot product is the codebook row of the code, where the lower parts of the codebook are zero. -/
theorem rowV_apply (o : FVec Ideal S1024x1024 .bf16) (h m l : FVec Ideal S1024x256 .bf16) (i K : Fin 1024)
    (d : Fin 256) (C : Book)
    (ho : ∀ j, o (ix2 i j) = ((if j = K then (1 : ℝ) else 0 : ℝ) : EReal))
    (hh : ∀ j d, h (ix2 j d) = (C j d : EReal)) (hm : ∀ j d, m (ix2 j d) = 0) (hl : ∀ j d, l (ix2 j d) = 0) :
    rowV o h m l (ix2 i d) = (C K d : EReal) := by
  unfold rowV
  pointwise
  simp only [ho, hh, hm, hl, mul_zero, Finset.sum_const_zero, add_zero, ← EReal.coe_mul, ← coe_sum]
  simp

/-- The sum of square differences of real blocks. -/
theorem sqV_eq (q r : FVec Ideal S1024x256 .f32) (Q R : Fin 1024 → Row)
    (hq : ∀ i d, q (ix2 i d) = (Q i d : EReal)) (hr : ∀ i d, r (ix2 i d) = (R i d : EReal)) :
    sqV q r = ((∑ i, ∑ d, (Q i d - R i d) * (Q i d - R i d) : ℝ) : EReal) := by
  unfold sqV
  pointwise
  simp only [hq, hr, ← EReal.coe_sub, ← EReal.coe_mul, ← coe_sum]

/-- A codebook part entry by entry. -/
theorem partV_apply (h : Vec Ideal S1x1024x256 .bf16) (j : Fin 1024) (d : Fin 256) :
    partV h (ix2 j d) = h (ix3 0 j d) := by
  unfold partV
  pointwise

end Cert.Rvq.Ker
-- ==== Proof.KerBlock.lean ====
/- The kernel's block of rows through its four levels: the printed payloads are these states, and on real values they are
   the quantization of every row. -/
module

public import proofs.«01_k».proof.Proof.KerLevel

@[expose] public section

set_option maxRecDepth 16384

noncomputable section

namespace Cert.Rvq.Ker

open Idealize.ShloMosaic
open Cert.KernelIdeal Cert.KernelIdeal.Gen

/-- The codes of one level. -/
def codeV (r : FVec Ideal S1024x256 .f32) (h : Vec Ideal S1x1024x256 .bf16) (c : Vec Ideal S1x8x1024 .f32) :
    IVec S1024 32 := firstV (maskV (distV r (partV h) c))

/-- The codebook rows of one level. -/
def pickV (r : FVec Ideal S1024x256 .f32) (h m l : Vec Ideal S1x1024x256 .bf16) (c : Vec Ideal S1x8x1024 .f32) :
    FVec Ideal S1024x256 .f32 := rowV (hotV (codeV r h c)) (partV h) (partV m) (partV l)

/-- The zero block. -/
def zeroV : FVec Ideal S1024x256 .f32 := broadcast S1024x256 (Scalar.ofBits .f32 0x00000000#32)

/-- Four columns of codes side by side. -/
def columnsV (k0 k1 k2 k3 : IVec S1024 32) : IVec S1024x4 32 :=
  concatenate S1024x4 1
    [⟨S1024x1, shapeCast S1024x1 k0 shapeCasts_S1024_S1024x1⟩, ⟨S1024x1, shapeCast S1024x1 k1 shapeCasts_S1024_S1024x1⟩,
      ⟨S1024x1, shapeCast S1024x1 k2 shapeCasts_S1024_S1024x1⟩, ⟨S1024x1, shapeCast S1024x1 k3 shapeCasts_S1024_S1024x1⟩]
    concatenates_S1024x1_S1024x1_S1024x1_S1024x1_S1024x4_d1

section State

variable (x : FVec Ideal S1024x256 .f32) (h m l : ℕ → Vec Ideal S1x1024x256 .bf16) (c : ℕ → Vec Ideal S1x8x1024 .f32)

/-- The reconstruction and the residual of the block before level `k`. -/
def stateV : ℕ → FVec Ideal S1024x256 .f32 × FVec Ideal S1024x256 .f32
  | 0 => (zeroV, x)
  | k + 1 =>
    (addf (stateV k).1 (pickV (stateV k).2 (h k) (m k) (l k) (c k)),
      subf x (addf (stateV k).1 (pickV (stateV k).2 (h k) (m k) (l k) (c k))))

/-- The codes of the block at level `k`. -/
def codesV (k : ℕ) : IVec S1024 32 := codeV (stateV x h m l c k).2 (h k) (c k)

/-- The rows chosen at level `k`. -/
def rowsV (k : ℕ) : FVec Ideal S1024x256 .f32 := pickV (stateV x h m l c k).2 (h k) (m k) (l k) (c k)

/-- The square error of the block before level `k`. -/
def lossV : ℕ → Ideal .f32
  | 0 => Scalar.ofBits .f32 0x00000000#32
  | k + 1 => Scalar.addf (lossV k) (sqV (rowsV x h m l c k) (stateV x h m l c k).2)

/-- The codes of the block, the four levels side by side. -/
def stackV : IVec S1024x4 32 :=
  columnsV (codesV x h m l c 0) (codesV x h m l c 1) (codesV x h m l c 2) (codesV x h m l c 3)

end State

section Value

variable (x : FVec Ideal S1024x256 .f32) (h m l : ℕ → Vec Ideal S1x1024x256 .bf16) (c : ℕ → Vec Ideal S1x8x1024 .f32)
variable (X : Fin 1024 → Row) (B : ℕ → Book)

/-- The codes of one level on real values. -/
theorem codeV_real (r : FVec Ideal S1024x256 .f32) (h : Vec Ideal S1x1024x256 .bf16) (c : Vec Ideal S1x8x1024 .f32)
    (R : Fin 1024 → Row) (C : Book) (hr : ∀ i d, r (ix2 i d) = (R i d : EReal))
    (hh : ∀ j d, h (ix3 0 j d) = (C j d : EReal)) (hc : ∀ j, c (ix3 0 0 j) = ((∑ d, C j d * C j d : ℝ) : EReal))
    (i : Fin 1024) : codeV r h c (ix1 i) = BitVec.ofNat 32 (code (R i) C).val :=
  codeV_apply _ i _ fun j =>
    distV_apply r (partV h) c R C hr (fun j d => (partV_apply h j d).trans (hh j d)) hc i j

/-- The rows of one level on real values. -/
theorem pickV_real (r : FVec Ideal S1024x256 .f32) (h m l : Vec Ideal S1x1024x256 .bf16)
    (c : Vec Ideal S1x8x1024 .f32) (R : Fin 1024 → Row) (C : Book) (hr : ∀ i d, r (ix2 i d) = (R i d : EReal))
    (hh : ∀ j d, h (ix3 0 j d) = (C j d : EReal)) (hm : ∀ j d, m (ix3 0 j d) = 0) (hl : ∀ j d, l (ix3 0 j d) = 0)
    (hc : ∀ j, c (ix3 0 0 j) = ((∑ d, C j d * C j d : ℝ) : EReal)) (i : Fin 1024) (d : Fin 256) :
    pickV r h m l c (ix2 i d) = (C (code (R i) C) d : EReal) :=
  rowV_apply _ _ _ _ i _ d C (fun j => hotV_apply _ i j _ (codeV_real r h c R C hr hh hc i))
    (fun j d => (partV_apply h j d).trans (hh j d)) (fun j d => (partV_apply m j d).trans (hm j d))
    (fun j d => (partV_apply l j d).trans (hl j d))

variable (hx : ∀ i d, x (ix2 i d) = (X i d : EReal)) (hh : ∀ k < 4, ∀ j d, h k (ix3 0 j d) = (B k j d : EReal))
  (hm : ∀ k < 4, ∀ j d, m k (ix3 0 j d) = 0) (hl : ∀ k < 4, ∀ j d, l k (ix3 0 j d) = 0)
  (hc : ∀ k < 4, ∀ j, c k (ix3 0 0 j) = ((∑ d, B k j d * B k j d : ℝ) : EReal))

include hx hh hm hl hc

/-- Before level `k` the block holds the reconstruction by the first `k` codebooks and what it leaves. -/
theorem stateV_apply (k : ℕ) (hk : k ≤ 4) :
    (∀ i d, (stateV x h m l c k).1 (ix2 i d) = (recon B (X i) k d : EReal)) ∧
      ∀ i d, (stateV x h m l c k).2 (ix2 i d) = (rest B (X i) k d : EReal) := by
  induction k with
  | zero =>
    refine ⟨fun i d => ?_, fun i d => by rw [rest_zero]; exact hx i d⟩
    show Ideal.ofBits .f32 0x00000000#32 = ((0 : ℝ) : EReal)
    simp [Ideal.ofBits, Ideal.ieee]
  | succ k ih =>
    obtain ⟨h1, h2⟩ := ih (by omega)
    have hk' : k < 4 := by omega
    have h3 : ∀ i d, (stateV x h m l c (k + 1)).1 (ix2 i d) = (recon B (X i) (k + 1) d : EReal) := fun i d => by
      show (stateV x h m l c k).1 (ix2 i d) + pickV _ _ _ _ _ (ix2 i d) = _
      rw [h1, pickV_real _ _ _ _ _ (fun i => rest B (X i) k) (B k) h2 (hh k hk') (hm k hk') (hl k hk') (hc k hk'),
        ← EReal.coe_add]
      rfl
    refine ⟨h3, fun i d => ?_⟩
    show x (ix2 i d) - (stateV x h m l c (k + 1)).1 (ix2 i d) = _
    rw [hx, h3, ← EReal.coe_sub]
    rfl

/-- The codes of level `k`. -/
theorem codesV_apply (k : ℕ) (hk : k < 4) (i : Fin 1024) :
    codesV x h m l c k (ix1 i) = BitVec.ofNat 32 (codeAt B (X i) k).val :=
  codeV_real _ _ _ (fun i => rest B (X i) k) (B k) (stateV_apply x h m l c X B hx hh hm hl hc k hk.le).2 (hh k hk)
    (hc k hk) i

/-- The square error before level `k` is that of the levels before. -/
theorem lossV_eq (k : ℕ) (hk : k ≤ 4) :
    lossV x h m l c k = ((∑ n ∈ Finset.range k, ∑ i, err B (X i) n : ℝ) : EReal) := by
  induction k with
  | zero =>
    show Ideal.ofBits .f32 0x00000000#32 = _
    simp [Ideal.ofBits, Ideal.ieee]
  | succ k ih =>
    have hk' : k < 4 := by omega
    have h2 := (stateV_apply x h m l c X B hx hh hm hl hc k (by omega)).2
    have hq := sqV_eq (rowsV x h m l c k) _ (fun i => B k (codeAt B (X i) k)) (fun i => rest B (X i) k)
      (pickV_real _ _ _ _ _ (fun i => rest B (X i) k) (B k) h2 (hh k hk') (hm k hk') (hl k hk') (hc k hk')) h2
    show lossV x h m l c k + sqV _ _ = _
    rw [ih (by omega), hq, Finset.sum_range_succ, EReal.coe_add]
    rfl

/-- The codes side by side: column `k` is the codes of level `k`. -/
theorem stackV_apply (i : Fin 1024) (k : Fin 4) :
    stackV x h m l c (ix2 i k) = BitVec.ofNat 32 (codeAt B (X i) k.val).val := by
  rw [← codesV_apply x h m l c X B hx hh hm hl hc k.val k.isLt i]
  unfold stackV columnsV
  generalize codesV x h m l c = K
  fin_cases k <;> pointwise

end Value

end Cert.Rvq.Ker
-- ==== Proof.KerPay.lean ====
/- The payloads that the kernel's body stores, as the levels' functions: each is stated over the payloads it reads, so that
   rewriting by them folds the stored values level by level. -/
module

public import proofs.«01_k».proof.Proof.KerBlock

@[expose] public section

set_option maxRecDepth 16384

noncomputable section

namespace Cert.Rvq.Ker

open Idealize.ShloMosaic
open Cert.KernelIdeal Cert.KernelIdeal.Gen

/-- A block of zeros, as the products' start. -/
abbrev startV : FVec Ideal S1024x256 .f32 := constant S1024x256 .f32 0x00000000#32

section First

variable (x : Vec Ideal S1024x256 .f32) (h0 m0 l0 h1 m1 l1 : Vec Ideal S1x1024x256 .bf16)
  (c0 c1 : Vec Ideal S1x8x1024 .f32)

/-- The codes of the first level. -/
theorem pay5_eq : k0_pay5 x h0 c0 = codeV x h0 c0 := rfl

/-- The reconstruction after the first level. -/
theorem pay10_eq : k0_pay10 k0_pay3 (k0_pay6 x h0 c0) (k0_pay7 x h0 c0 m0) l0 = addf zeroV (pickV x h0 m0 l0 c0) := rfl

/-- The residual after the first level. -/
theorem pay11_eq : k0_pay11 x k0_pay3 (k0_pay6 x h0 c0) (k0_pay7 x h0 c0 m0) l0 =
    subf x (addf zeroV (pickV x h0 m0 l0 c0)) := rfl

/-- The square error of the first level. -/
theorem pay9_eq : k0_pay9 x (k0_pay6 x h0 c0) (k0_pay7 x h0 c0 m0) l0 =
    Scalar.addf (Scalar.ofBits .f32 0x00000000#32) (sqV (pickV x h0 m0 l0 c0) x) := rfl

/-- The codes of the second level. -/
theorem pay13_eq : k0_pay13 x k0_pay3 (k0_pay6 x h0 c0) (k0_pay7 x h0 c0 m0) l0 h1 c1 =
    codeV (subf x (addf zeroV (pickV x h0 m0 l0 c0))) h1 c1 := rfl

/-- The one-hot rows of the second level. -/
theorem pay14_eq : k0_pay14 x k0_pay3 (k0_pay6 x h0 c0) (k0_pay7 x h0 c0 m0) l0 h1 c1 =
    hotV (codeV (subf x (addf zeroV (pickV x h0 m0 l0 c0))) h1 c1) := rfl

end First

section Second

variable (x a r : Vec Ideal S1024x256 .f32) (k : IVec S1024 32) (o : FVec Ideal S1024x1024 .bf16) (e : Ideal .f32)
  (h1 m1 l1 h2 : Vec Ideal S1x1024x256 .bf16) (c2 : Vec Ideal S1x8x1024 .f32)

/-- The square error after the second level. -/
theorem pay16_eq : k0_pay16 e r (k0_pay12 h1) o startV m1 l1 =
    Scalar.addf e (sqV (rowV o (partV h1) (partV m1) (partV l1)) r) := rfl

/-- The reconstruction after the second level. -/
theorem pay17_eq : k0_pay17 a (k0_pay12 h1) o startV m1 l1 = addf a (rowV o (partV h1) (partV m1) (partV l1)) := rfl

/-- The residual after the second level. -/
theorem pay18_eq : k0_pay18 x a (k0_pay12 h1) o startV m1 l1 =
    subf x (addf a (rowV o (partV h1) (partV m1) (partV l1))) := rfl

/-- The places of the smallest distances of the third level. -/
theorem pay20_eq : k0_pay20 x a (k0_pay12 h1) o startV m1 l1 h2 c2 =
    maskV (distV (subf x (addf a (rowV o (partV h1) (partV m1) (partV l1)))) (partV h2) c2) := rfl

end Second

section Third

variable (x a r : Vec Ideal S1024x256 .f32) (M : IVec S1024x1024 1) (e : Ideal .f32) (k0 k1 k2 : IVec S1024 32)
  (h2 m2 l2 h3 m3 l3 : Vec Ideal S1x1024x256 .bf16) (c3 : Vec Ideal S1x8x1024 .f32)

/-- The codes of the third level. -/
theorem pay22_eq : k0_pay22 (iota .tc S1024x1024 32 [1] iota_S1024x1024_d1_w32) M k0_pay21 = firstV M := rfl

/-- The square error after the third level. -/
theorem pay24_eq : k0_pay24 e r (k0_pay19 h2) (iota .tc S1024x1024 32 [1] iota_S1024x1024_d1_w32) M k0_pay21 m2 l2 =
    Scalar.addf e (sqV (rowV (hotV (firstV M)) (partV h2) (partV m2) (partV l2)) r) := rfl

/-- The reconstruction after the third level. -/
theorem pay25_eq : k0_pay25 a (k0_pay19 h2) (iota .tc S1024x1024 32 [1] iota_S1024x1024_d1_w32) M k0_pay21 m2 l2 =
    addf a (rowV (hotV (firstV M)) (partV h2) (partV m2) (partV l2)) := rfl

/-- The residual after the third level. -/
theorem pay26_eq : k0_pay26 x a (k0_pay19 h2) (iota .tc S1024x1024 32 [1] iota_S1024x1024_d1_w32) M k0_pay21 m2 l2 =
    subf x (addf a (rowV (hotV (firstV M)) (partV h2) (partV m2) (partV l2))) := rfl

/-- The products of the fourth level's distances. -/
theorem pay28_eq : k0_pay28 x a (k0_pay19 h2) (iota .tc S1024x1024 32 [1] iota_S1024x1024_d1_w32) M k0_pay21 m2 l2 h3 =
    crossV (subf x (addf a (rowV (hotV (firstV M)) (partV h2) (partV m2) (partV l2)))) (partV h3) := rfl

/-- The square sums of the fourth level's distances. -/
theorem pay29_eq : k0_pay29 x a (k0_pay19 h2) (iota .tc S1024x1024 32 [1] iota_S1024x1024_d1_w32) M k0_pay21 m2 l2 c3 =
    squaresV (subf x (addf a (rowV (hotV (firstV M)) (partV h2) (partV m2) (partV l2)))) c3 := rfl

end Third

section Fourth

variable (a r R : Vec Ideal S1024x256 .f32) (e : Ideal .f32) (k0 k1 k2 : IVec S1024 32)
  (h3 m3 l3 : Vec Ideal S1x1024x256 .bf16) (c3 : Vec Ideal S1x8x1024 .f32)

/-- The square error after the fourth level. -/
theorem pay33_eq : k0_pay33 e R (k0_pay27 h3) (crossV r (partV h3)) (squaresV r c3) k0_pay30 m3 l3 =
    Scalar.addf e (sqV (pickV r h3 m3 l3 c3) R) := rfl

/-- The reconstruction after the fourth level. -/
theorem pay34_eq : k0_pay34 a (k0_pay27 h3) (crossV r (partV h3)) (squaresV r c3) k0_pay30 m3 l3 =
    addf a (pickV r h3 m3 l3 c3) := rfl

/-- The codes of the four levels side by side. -/
theorem pay35_eq : k0_pay35 k0 k1 k2 (crossV r (partV h3)) (squaresV r c3) k0_pay30 =
    columnsV k0 k1 k2 (codeV r h3 c3) := rfl

end Fourth

end Cert.Rvq.Ker
-- ==== Proof.KerOuts.lean ====
/- What every grid point of the kernel leaves in its output blocks: the block's states after the four levels. -/
module

public import proofs.«01_k».proof.Proof.KerPay
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Rvq.Ker

open Idealize.ShloMosaic Idealize.ShloMosaic.TcCoe Idealize.SL.Sem
open Cert.KernelIdeal Cert.KernelIdeal.Gen

variable (m : (ℓ : Loc nD τ sig) → Buf (Elt Ideal) ℓ)

/-- The codebook part of level `k` in a window of all four. -/
def ldPart (w : Vec Ideal S4x1024x256 .bf16) : ℕ → Vec Ideal S1x1024x256 .bf16
  | 0 => View.ld w (Rect.unit ![0, 0, 0] ![1, 1024, 256] inb_S4x1024x256_S1x1024x256_0_0_0)
  | 1 => View.ld w (Rect.unit ![1, 0, 0] ![1, 1024, 256] inb_S4x1024x256_S1x1024x256_1_0_0)
  | 2 => View.ld w (Rect.unit ![2, 0, 0] ![1, 1024, 256] inb_S4x1024x256_S1x1024x256_2_0_0)
  | _ => View.ld w (Rect.unit ![3, 0, 0] ![1, 1024, 256] inb_S4x1024x256_S1x1024x256_3_0_0)

/-- The square sums of level `k` in a window of all four. -/
def ldSq (w : Vec Ideal S4x8x1024 .f32) : ℕ → Vec Ideal S1x8x1024 .f32
  | 0 => View.ld w (Rect.unit ![0, 0, 0] ![1, 8, 1024] inb_S4x8x1024_S1x8x1024_0_0_0)
  | 1 => View.ld w (Rect.unit ![1, 0, 0] ![1, 8, 1024] inb_S4x8x1024_S1x8x1024_1_0_0)
  | 2 => View.ld w (Rect.unit ![2, 0, 0] ![1, 8, 1024] inb_S4x8x1024_S1x8x1024_2_0_0)
  | _ => View.ld w (Rect.unit ![3, 0, 0] ![1, 8, 1024] inb_S4x8x1024_S1x8x1024_3_0_0)

/-- A codebook part entry by entry. -/
theorem ldPart_apply (w : Vec Ideal S4x1024x256 .bf16) (k : Fin 4) (j : Fin 1024) (d : Fin 256) :
    ldPart w k.val (ix3 0 j d) = w (ix3 k j d) := by
  unfold ldPart
  fin_cases k <;> pointwise

/-- The square sums entry by entry. -/
theorem ldSq_apply (w : Vec Ideal S4x8x1024 .f32) (k : Fin 4) (j : Fin 1024) :
    ldSq w k.val (ix3 0 0 j) = w (ix3 k 0 j) := by
  unfold ldSq
  fin_cases k <;> pointwise

/-- The state of point `t`'s block before level `k`. -/
def stateB (c : Dev nD) (t : Fin cfg0.N) (k : ℕ) : FVec Ideal S1024x256 .f32 × FVec Ideal S1024x256 .f32 :=
  stateV (iblk m c 0 t) (ldPart (iblk m c 1 t)) (ldPart (iblk m c 2 t)) (ldPart (iblk m c 3 t)) (ldSq (iblk m c 4 t)) k

/-- The codes of point `t`'s block. -/
def stackB (c : Dev nD) (t : Fin cfg0.N) : IVec S1024x4 32 :=
  stackV (iblk m c 0 t) (ldPart (iblk m c 1 t)) (ldPart (iblk m c 2 t)) (ldPart (iblk m c 3 t)) (ldSq (iblk m c 4 t))

/-- The square error of point `t`'s block. -/
def lossB (c : Dev nD) (t : Fin cfg0.N) : Ideal .f32 :=
  lossV (iblk m c 0 t) (ldPart (iblk m c 1 t)) (ldPart (iblk m c 2 t)) (ldPart (iblk m c 3 t)) (ldSq (iblk m c 4 t)) 4

/-- The first point leaves its block's reconstruction and codes, and its square error over zero. -/
theorem outs_first (c : Dev nD) (t : Fin cfg0.N) (h0 : t.val % 16 = 0) :
    (outsAt0 m c t.val t.isLt).1 = (stateB m c t 4).1 ∧ (outsAt0 m c t.val t.isLt).2.1 = stackB m c t ∧
      (outsAt0 m c t.val t.isLt).2.2 = k0_pay2 (lossB m c t) (k0_pay1 (F := Ideal)) := by
  rw [outsAt0_A m c t h0]
  refine ⟨?_, ?_, ?_⟩ <;> dsimp only <;> frame_out <;>
    simp only [pay5_eq, pay10_eq, pay11_eq, pay9_eq, pay13_eq, pay14_eq, pay16_eq, pay17_eq, pay18_eq, pay20_eq,
      pay22_eq, pay24_eq, pay25_eq, pay26_eq, pay28_eq, pay29_eq, pay33_eq, pay34_eq, pay35_eq, stateB, stackB, lossB,
      stateV, lossV, codesV, rowsV, stackV, pickV, codeV, ldPart, ldSq] <;>
    rfl

/-- Every later point leaves its block's reconstruction and codes, and its square error over that of the points before. -/
theorem outs_later (c : Dev nD) (t : Fin cfg0.N) (h0 : ¬ t.val % 16 = 0) :
    (outsAt0 m c t.val t.isLt).1 = (stateB m c t 4).1 ∧ (outsAt0 m c t.val t.isLt).2.1 = stackB m c t ∧
      (outsAt0 m c t.val t.isLt).2.2 = k0_pay2 (lossB m c t)
        (outsAt0 m c (t.val - 1) (Nat.lt_of_le_of_lt (Nat.sub_le _ _) t.isLt)).2.2 := by
  rw [outsAt0_B m c t h0]
  refine ⟨?_, ?_, ?_⟩ <;> dsimp only <;> frame_out <;>
    simp only [pay5_eq, pay10_eq, pay11_eq, pay9_eq, pay13_eq, pay14_eq, pay16_eq, pay17_eq, pay18_eq, pay20_eq,
      pay22_eq, pay24_eq, pay25_eq, pay26_eq, pay28_eq, pay29_eq, pay33_eq, pay34_eq, pay35_eq, stateB, stackB, lossB,
      stateV, lossV, codesV, rowsV, stackV, pickV, codeV, ldPart, ldSq] <;>
    rfl

/-- Every point leaves its block's reconstruction and codes. -/
theorem outs_block (c : Dev nD) (t : Fin cfg0.N) :
    (outsAt0 m c t.val t.isLt).1 = (stateB m c t 4).1 ∧ (outsAt0 m c t.val t.isLt).2.1 = stackB m c t := by
  by_cases h0 : t.val % 16 = 0
  · exact ⟨(outs_first m c t h0).1, (outs_first m c t h0).2.1⟩
  · exact ⟨(outs_later m c t h0).1, (outs_later m c t h0).2.1⟩

/-- Adding a square error to the one before. -/
theorem pay2_apply (e : Ideal .f32) (v : Vec Ideal S1x1 .f32) (j : S1x1.Idx) : k0_pay2 e v j = v j + e := by
  unfold k0_pay2
  rw [shapeCast_self]
  rfl

/-- The square error starts at zero. -/
theorem pay1_apply (j : S1x1.Idx) : (k0_pay1 : FVec Ideal S1x1 .f32) j = 0 := by
  show Ideal.ofBits .f32 0x00000000#32 = 0
  simp [Ideal.ofBits, Ideal.ieee]

end Cert.Rvq.Ker
-- ==== Proof.KerWindows.lean ====
/- What the host prepares before the launch, and what the kernel's windows show of it. -/
module

public import proofs.«01_k».proof.Proof.KerOuts
public import Idealize.ShloMosaic.Lib.StableHlo.RunRead

@[expose] public section

set_option maxRecDepth 16384

noncomputable section

namespace Cert.Rvq.Ker

open Idealize.ShloMosaic Idealize.ShloMosaic.TcCoe Idealize.SL.Sem
open Cert.KernelIdeal Cert.KernelIdeal.Gen

/-- The codebooks in the narrow type. -/
def narrowV (b : FVec Ideal S4x1024x256 .f32) : FVec Ideal S4x1024x256 .bf16 := truncf .bf16 b bitsLt_bf16_f32

/-- The part of the codebooks that the first split leaves. -/
def remV (b : FVec Ideal S4x1024x256 .f32) : FVec Ideal S4x1024x256 .f32 :=
  subf b (extf .f32 (narrowV b) bitsLt_bf16_f32)

/-- The square sums of all codebook rows, repeated along the sublanes. -/
def sumsV (b : FVec Ideal S4x1024x256 .f32) : FVec Ideal S4x8x1024 .f32 :=
  broadcastInDim S4x8x1024 ![0, 1, 2] bcast_S4x1x1024_S4x8x1024_0_1_2
    (broadcastInDim S4x1x1024 ![0, 2] bcast_S4x1024_S4x1x1024_0_2
      (Host.reduceAdd (mulf b b) (constant S_ .f32 0x00000000#32) reducesTo_S4x1024x256_S4x1024_d2 h_S_))

/-- What the host operations before the launch leave in the windows' arrays. -/
theorem host_reads (W : Valuation τ sig (Elt Ideal)) :
    StableHlo.after hostOps0 W (Proc.devRef .tc main_arg0) = W (Proc.devRef .tc main_arg0) ∧
    StableHlo.after hostOps0 W (Proc.devRef .tc main_call0_v0) = narrowV (W (Proc.devRef .tc main_arg1)) ∧
    StableHlo.after hostOps0 W (Proc.devRef .tc main_call0_v3) = narrowV (remV (W (Proc.devRef .tc main_arg1))) ∧
    StableHlo.after hostOps0 W (Proc.devRef .tc main_call0_v6) = narrowV (remV (remV (W (Proc.devRef .tc main_arg1)))) ∧
    StableHlo.after hostOps0 W (Proc.devRef .tc main_call0_v10) = sumsV (W (Proc.devRef .tc main_arg1)) := by
  unfold remV sumsV narrowV
  refine ⟨?_, ?_, ?_, ?_, ?_⟩ <;> (after_reads_simp; (try simp only [StableHlo.TRef.ofBuf_toBuf]); try rfl)

/-- Where the row window stands at every point. -/
theorem idx_rows : ∀ t : Fin grid0.N, win0_0.index t = ![t.val, 0] := by decide +kernel

/-- The codebook windows stay where they are. -/
theorem idx_books : ∀ t : Fin grid0.N, win0_1.index t = ![0, 0, 0] ∧ win0_2.index t = ![0, 0, 0] ∧
    win0_3.index t = ![0, 0, 0] ∧ win0_4.index t = ![0, 0, 0] := by decide +kernel

/-- Row `i` of the block at point `t`, in the whole array. -/
def rowAt (t : Fin cfg0.N) (i : Fin 1024) : Fin 16384 :=
  ⟨1024 * t.val + i.val, by have := t.isLt; have : cfg0.N = 16 := N_0; omega⟩

/-- A sum of real numbers, term by term. -/
theorem real_sum {ι : Type} [Fintype ι] (f : ι → EReal) (g : ι → ℝ) (h : ∀ i, f i = ((g i : ℝ) : EReal)) :
    ∑ i, f i = ((∑ i, g i : ℝ) : EReal) := by
  rw [coe_sum]
  exact Finset.sum_congr rfl fun i _ => h i

variable (m : (ℓ : Loc nD τ sig) → Buf (Elt Ideal) ℓ)

/-- The row window shows the block's rows. -/
theorem window_rows (c : Dev nD) (t : Fin cfg0.N) (i : Fin 1024) (d : Fin 256) :
    iblk m c 0 t (ix2 i d) = m ((c : Thread nD τ).loc main_arg0) (ix2 (rowAt t i) d) := by
  blk_simp [iblk, V]
  refine (congrFun (host_reads _).1 _).trans ?_
  unfold rowAt
  blk_ext [idx_rows t]

/-- The first codebook part is the codebooks themselves. -/
theorem window_high (c : Dev nD) (t : Fin cfg0.N) (k : Fin 4) (j : Fin 1024) (d : Fin 256) :
    iblk m c 1 t (ix3 k j d) = m ((c : Thread nD τ).loc main_arg1) (ix3 k j d) := by
  blk_simp [iblk, V]
  refine (congrFun (host_reads _).2.1 _).trans ?_
  unfold narrowV
  pointwise
  blk_ext [(idx_books t).1]

/-- The second codebook part is what is left after the first. -/
theorem window_middle (c : Dev nD) (t : Fin cfg0.N) (k : Fin 4) (j : Fin 1024) (d : Fin 256) (r : ℝ)
    (hr : m ((c : Thread nD τ).loc main_arg1) (ix3 k j d) = ((r : ℝ) : EReal)) : iblk m c 2 t (ix3 k j d) = (0 : EReal) := by
  have e : ((win0_2.blk t).view.emb (ix3 k j d)) = ix3 k j d := by blk_ext [(idx_books t).2.1]
  blk_simp [iblk, V]
  refine (congrFun (host_reads _).2.2.1 _).trans ?_
  unfold narrowV remV narrowV
  pointwise
  have h : m (c, Proc.tc.devRef main_arg1) ((win0_2.blk t).view.emb (ix3 k j d)) = ((r : ℝ) : EReal) :=
    (congrArg (m (c, Proc.tc.devRef main_arg1)) e).trans hr
  refine (congrArg₂ (fun u v : EReal => u - v) h h).trans ?_
  rw [← EReal.coe_sub, sub_self, EReal.coe_zero]

/-- The third codebook part is what is left after the second. -/
theorem window_low (c : Dev nD) (t : Fin cfg0.N) (k : Fin 4) (j : Fin 1024) (d : Fin 256) (r : ℝ)
    (hr : m ((c : Thread nD τ).loc main_arg1) (ix3 k j d) = ((r : ℝ) : EReal)) : iblk m c 3 t (ix3 k j d) = (0 : EReal) := by
  have e : ((win0_3.blk t).view.emb (ix3 k j d)) = ix3 k j d := by blk_ext [(idx_books t).2.2.1]
  blk_simp [iblk, V]
  refine (congrFun (host_reads _).2.2.2.1 _).trans ?_
  unfold narrowV remV narrowV
  pointwise
  have h : m (c, Proc.tc.devRef main_arg1) ((win0_3.blk t).view.emb (ix3 k j d)) = ((r : ℝ) : EReal) :=
    (congrArg (m (c, Proc.tc.devRef main_arg1)) e).trans hr
  refine (congrArg (fun u : EReal => u - u - (u - u)) h).trans ?_
  rw [← EReal.coe_sub, ← EReal.coe_sub, sub_self, EReal.coe_zero]

/-- The window of square sums shows those of the codebook rows. -/
theorem window_sums (c : Dev nD) (t : Fin cfg0.N) (k : Fin 4) (j : Fin 1024) (b : Row)
    (hb : ∀ d, m ((c : Thread nD τ).loc main_arg1) (ix3 k j d) = ((b d : ℝ) : EReal)) :
    iblk m c 4 t (ix3 k 0 j) = ((∑ d, b d * b d : ℝ) : EReal) := by
  have e : ((win0_4.blk t).view.emb (ix3 k 0 j)) = ix3 k 0 j := by blk_ext [(idx_books t).2.2.2]
  blk_simp [iblk, V]
  refine (congrFun (host_reads _).2.2.2.2 _).trans ?_
  unfold sumsV
  pointwise
  refine real_sum _ (fun d => b d * b d) fun d => ?_
  have h : m (c, Proc.tc.devRef main_arg1) (ix3 (((win0_4.blk t).view.emb (ix3 k 0 j)) 0) (((win0_4.blk t).view.emb (ix3 k 0 j)) 2) d) =
      ((b d : ℝ) : EReal) :=
    (congrArg₂ (fun u v => m (c, Proc.tc.devRef main_arg1) (ix3 u v d)) (congrFun e 0) (congrFun e 2)).trans (hb d)
  refine (congrArg₂ (fun u v : EReal => u * v) h h).trans ?_
  rw [← EReal.coe_mul]

/-! What the block of one point comes to where the arguments are real numbers. -/

variable (c : Dev nD) (X : Fin 16384 → Row) (B : ℕ → Book)
  (hX : ∀ i d, m ((c : Thread nD τ).loc main_arg0) (ix2 i d) = ((X i d : ℝ) : EReal))
  (hB : ∀ (k : Fin 4) j d, m ((c : Thread nD τ).loc main_arg1) (ix3 k j d) = ((B k.val j d : ℝ) : EReal))

include hX hB

/-- The reconstruction that point `t` stores. -/
theorem stateB_apply (t : Fin cfg0.N) (i : Fin 1024) (d : Fin 256) :
    (stateB m c t 4).1 (ix2 i d) = ((recon B (X (rowAt t i)) 4 d : ℝ) : EReal) :=
  (stateV_apply _ _ _ _ _ (fun i => X (rowAt t i)) B (fun i d => (window_rows m c t i d).trans (hX _ _))
    (fun k hk j d => (ldPart_apply _ ⟨k, hk⟩ j d).trans ((window_high m c t ⟨k, hk⟩ j d).trans (hB ⟨k, hk⟩ j d)))
    (fun k hk j d => (ldPart_apply _ ⟨k, hk⟩ j d).trans (window_middle m c t ⟨k, hk⟩ j d _ (hB ⟨k, hk⟩ j d)))
    (fun k hk j d => (ldPart_apply _ ⟨k, hk⟩ j d).trans (window_low m c t ⟨k, hk⟩ j d _ (hB ⟨k, hk⟩ j d)))
    (fun k hk j => (ldSq_apply _ ⟨k, hk⟩ j).trans (window_sums m c t ⟨k, hk⟩ j _ (hB ⟨k, hk⟩ j))) 4 le_rfl).1 i d

/-- The codes that point `t` stores. -/
theorem stackB_apply (t : Fin cfg0.N) (i : Fin 1024) (k : Fin 4) :
    stackB m c t (ix2 i k) = BitVec.ofNat 32 (codeAt B (X (rowAt t i)) k.val).val :=
  stackV_apply _ _ _ _ _ (fun i => X (rowAt t i)) B (fun i d => (window_rows m c t i d).trans (hX _ _))
    (fun k hk j d => (ldPart_apply _ ⟨k, hk⟩ j d).trans ((window_high m c t ⟨k, hk⟩ j d).trans (hB ⟨k, hk⟩ j d)))
    (fun k hk j d => (ldPart_apply _ ⟨k, hk⟩ j d).trans (window_middle m c t ⟨k, hk⟩ j d _ (hB ⟨k, hk⟩ j d)))
    (fun k hk j d => (ldPart_apply _ ⟨k, hk⟩ j d).trans (window_low m c t ⟨k, hk⟩ j d _ (hB ⟨k, hk⟩ j d)))
    (fun k hk j => (ldSq_apply _ ⟨k, hk⟩ j).trans (window_sums m c t ⟨k, hk⟩ j _ (hB ⟨k, hk⟩ j))) i k

/-- The square error that point `t` adds. -/
theorem lossB_eq (t : Fin cfg0.N) :
    lossB m c t = ((∑ n ∈ Finset.range 4, ∑ i, err B (X (rowAt t i)) n : ℝ) : EReal) :=
  lossV_eq _ _ _ _ _ (fun i => X (rowAt t i)) B (fun i d => (window_rows m c t i d).trans (hX _ _))
    (fun k hk j d => (ldPart_apply _ ⟨k, hk⟩ j d).trans ((window_high m c t ⟨k, hk⟩ j d).trans (hB ⟨k, hk⟩ j d)))
    (fun k hk j d => (ldPart_apply _ ⟨k, hk⟩ j d).trans (window_middle m c t ⟨k, hk⟩ j d _ (hB ⟨k, hk⟩ j d)))
    (fun k hk j d => (ldPart_apply _ ⟨k, hk⟩ j d).trans (window_low m c t ⟨k, hk⟩ j d _ (hB ⟨k, hk⟩ j d)))
    (fun k hk j => (ldSq_apply _ ⟨k, hk⟩ j).trans (window_sums m c t ⟨k, hk⟩ j _ (hB ⟨k, hk⟩ j))) 4 le_rfl

end Cert.Rvq.Ker
-- ==== Proof.KerArrays.lean ====
/- The kernel's three result arrays after the run. -/
module

public import proofs.«01_k».proof.Proof.KerWindows

@[expose] public section

set_option maxRecDepth 16384

noncomputable section

namespace Cert.Rvq.Ker

open Idealize.ShloMosaic Idealize.ShloMosaic.TcCoe Idealize.SL.Sem
open Cert.KernelIdeal Cert.KernelIdeal.Gen

/-- The array of reconstructions. -/
def recArr (X : Fin 16384 → Row) (B : ℕ → Book) : FVec Ideal S16384x256 .f32 :=
  fun j => ((recon B (X (j 0)) 4 (j 1) : ℝ) : EReal)

/-- The array of codes. -/
def codeArr (X : Fin 16384 → Row) (B : ℕ → Book) : IVec S16384x4 32 :=
  fun j => BitVec.ofNat 32 (codeAt B (X (j 0)) (j 1).val).val

/-- Where the output windows of rows stand at every point. -/
theorem idx_outs : ∀ t : Fin grid0.N, win0_5.index t = ![t.val, 0] ∧ win0_6.index t = ![t.val, 0] := by decide +kernel

variable (m : (ℓ : Loc nD τ sig) → Buf (Elt Ideal) ℓ)

variable (c : Dev nD) (X : Fin 16384 → Row) (B : ℕ → Book)
  (hX : ∀ i d, m ((c : Thread nD τ).loc main_arg0) (ix2 i d) = ((X i d : ℝ) : EReal))
  (hB : ∀ (k : Fin 4) j d, m ((c : Thread nD τ).loc main_arg1) (ix3 k j d) = ((B k.val j d : ℝ) : EReal))

include hX hB

/-- The reconstructions after the run. -/
theorem rec_array : (dats m 0 c).arrAt 5 (cfgs 0).N = recArr X B := by
  refine (dats m 0 c).arrAt_eq_of_covers 5 _ (by decide +kernel) fun t hf y => ?_
  blk_simp
  rw [after0_5, (outs_block m c t).1]
  obtain ⟨i, d, rfl⟩ : ∃ (i : Fin 1024) (d : Fin 256), y = ix2 i d := ⟨y 0, y 1, by blk_ext⟩
  have e : (win0_5.blk t).view.emb (ix2 i d) = ix2 (rowAt t i) d := by unfold rowAt; blk_ext [(idx_outs t).1]
  exact (stateB_apply m c X B hX hB t i d).trans (congrArg (recArr X B) e).symm

/-- The codes after the run. -/
theorem code_array : (dats m 0 c).arrAt 6 (cfgs 0).N = codeArr X B := by
  refine (dats m 0 c).arrAt_eq_of_covers 6 _ (by decide +kernel) fun t hf y => ?_
  blk_simp
  rw [after0_6, (outs_block m c t).2]
  obtain ⟨i, k, rfl⟩ : ∃ (i : Fin 1024) (k : Fin 4), y = ix2 i k := ⟨y 0, y 1, by blk_ext⟩
  have e : (win0_6.blk t).view.emb (ix2 i k) = ix2 (rowAt t i) k := by unfold rowAt; blk_ext [(idx_outs t).2]
  exact (stackB_apply m c X B hX hB t i k).trans (congrArg (codeArr X B) e).symm

omit hX hB in
/-- The loss block after the last point sums what every point adds. -/
theorem loss_last (j : S1x1.Idx) :
    (outsAt0 m c t0_15.val t0_15.isLt).2.2 j = ∑ t : Fin cfg0.N, lossB m c t := by
  refine (Pipeline.eq_sum_fin_of_reset_step_apply_last (fun n h => ((outsAt0 m c n h).2.2 : S1x1.Idx → EReal)) 16 (fun _ => 0)
    (fun t _ => lossB m c t) (fun t h i => ?_) (fun t h i => ?_) (by decide) t0_15 (by decide) j).trans (zero_add _)
  · beta_reduce
    rw [(outs_first m c t h).2.2, pay2_apply, pay1_apply]
  · beta_reduce
    rw [(outs_later m c t h).2.2, pay2_apply]

omit hX hB in
/-- The rows of all blocks are the rows of the array. -/
theorem sum_rows (f : Fin 16384 → ℝ) : ∑ t : Fin cfg0.N, ∑ i : Fin 1024, f (rowAt t i) = ∑ i, f i := by
  rw [← Fintype.sum_prod_type' (fun (t : Fin cfg0.N) (i : Fin 1024) => f (rowAt t i))]
  refine Fintype.sum_equiv (finProdFinEquiv (m := 16) (n := 1024)) _ _ fun p => congrArg f (Fin.ext ?_)
  show 1024 * p.1.val + p.2.val = p.2.val + 1024 * p.1.val
  omega

/-- The loss array after the run. -/
theorem loss_array : (dats m 0 c).arrAt 7 (cfgs 0).N =
    ((fun _ => ((∑ n ∈ Finset.range 4, ∑ i, err B (X i) n : ℝ) : EReal)) : FVec Ideal S1x1 .f32) := by
  refine (dats m 0 c).arrAt_eq_of_after_last 7 t0_15 (by decide +kernel) _ fun j => ?_
  blk_simp
  rw [after0_7]
  refine (loss_last m c _).trans ?_
  refine (real_sum _ _ (lossB_eq m c X B hX hB)).trans (congrArg _ ?_)
  rw [Finset.sum_comm]
  exact Finset.sum_congr rfl fun n _ => sum_rows fun i => err B (X i) n

/-- The loss that the host operations after the launch make of the launch's sum. -/
def tailV (l : FVec Ideal S1x1 .f32) : FVec Ideal S_ .f32 :=
  Host.divf (mulf (shapeCast S_ l shapeCasts_S1x1_S_) (constant S_ .f32 0x40000000#32)) (constant S_ .f32 0x4A800000#32)

omit hX hB in
/-- What the host operations after the launch leave in the loss. -/
theorem tail_reads (W : Valuation τ sig (Elt Ideal)) :
    StableHlo.after hostOps1 W (Proc.devRef .tc main_v0_2) = tailV (W (Proc.devRef .tc main_call0_v11_2)) := by
  unfold tailV
  after_reads_simp
  rfl

/-- The loss of the whole program. -/
theorem loss_tail : Pipeline.afterTail₀ cfgs (dats m) 0 (V0 m) [hostOps1] c main_v0_2 =
    tailV (fun _ => ((∑ n ∈ Finset.range 4, ∑ i, err B (X i) n : ℝ) : EReal)) := by
  refine (tail_reads (Pipeline.withArrays spec0 c (V0 m c) fun w => (dats m 0 c).arrAt w (cfgs 0).N)).trans (congrArg tailV ?_)
  refine (Pipeline.withArrays_arr spec0 (by decide) c (V0 m c) _ 7).trans (loss_array m c X B hX hB)

omit hX hB in
/-- The word of the number of entries of the input, 2 to the 22. -/
theorem ofBits_count : Ideal.ofBits .f32 0x4A800000#32 = ((4194304 : ℝ) : EReal) := by
  simp [Ideal.ofBits, Ideal.ieee, -EReal.coe_mul]; norm_num

omit hX hB in
/-- The host's part of the loss, at a real number. -/
theorem tail_real (l : FVec Ideal S1x1 .f32) (r : ℝ) (hl : ∀ j, l j = ((r : ℝ) : EReal)) (j : S_.Idx) :
    tailV l j = ((r * 2 / 4194304 : ℝ) : EReal) := by
  unfold tailV
  pointwise
  rw [hl, ofBits_two, ofBits_count, Ideal.div_coe (by norm_num), ← EReal.coe_mul, ← EReal.coe_mul]
  exact congrArg _ (by ring)

omit hX hB in
/-- Where the arguments are real numbers, the kernel program leaves these results. -/
theorem run (g) (X : Dev nD → Fin 16384 → Row) (B : Dev nD → ℕ → Book)
    (hX : ∀ (c : Dev nD) i d, m ((c : Thread nD τ).loc main_arg0) (ix2 i d) = ((X c i d : ℝ) : EReal))
    (hB : ∀ (c : Dev nD) (k : Fin 4) j d, m ((c : Thread nD τ).loc main_arg1) (ix3 k j d) = ((B c k.val j d : ℝ) : EReal)) :
    θ_run defs (onTc (τ := τ) (main (F := Ideal))) ⟨m, fun _ => 0, g⟩ fun r => ∀ c : Dev nD,
      r.2.mem ((c : Thread nD τ).loc main_v0_0) = recArr (X c) (B c) ∧
      r.2.mem ((c : Thread nD τ).loc main_v0_1) = codeArr (X c) (B c) ∧
      r.2.mem ((c : Thread nD τ).loc main_v0_2) =
        tailV (fun _ => ((∑ n ∈ Finset.range 4, ∑ i, err (B c) (X c i) n : ℝ) : EReal)) ∧
      r.2.mem ((c : Thread nD τ).loc main_arg0) = m ((c : Thread nD τ).loc main_arg0) ∧
      r.2.mem ((c : Thread nD τ).loc main_arg1) = m ((c : Thread nD τ).loc main_arg1) := by
  run_from (run_main m g) & (unchanged m g)
  · exact rec_array m c _ _ (hX c) (hB c)
  · exact code_array m c _ _ (hX c) (hB c)
  · exact loss_tail m c _ _ (hX c) (hB c)

end Cert.Rvq.Ker
-- ==== Proof.RefRun.lean ====
/- The straight line of host operations that the reference program is, and its run. -/
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384
set_option pp.maxSteps 120

namespace Cert.Rvq.Ref

open Idealize.ShloMosaic Idealize.SL.Sem Idealize.ShloMosaic.StableHlo Cert.ReferenceIdeal

/-- Two straight lines after each other are one straight line, their lists appended. -/
theorem isSeq_append {p q : Prog (TpuEff nD τ sig (Elt Ideal) (Pipeline.Sig Λ₀ (Fin 0) fun p => (pcfgs (F := Ideal) p).Adm) .tc) PUnit} {a b : List (HloOp τ sig (Elt Ideal))}
    (hp : IsSeq p a) (hq : IsSeq q b) : IsSeq (p >>= fun _ => q) (a ++ b) := by
  unfold IsSeq at hp hq ⊢
  rw [hp, hq]
  clear hp hq p q
  induction a with
  | nil => rfl
  | cons op a ih =>
    show ((hlo rfl op fun _ => .ret (⟨⟩ : PUnit)) >>= fun _ => seq a) >>= (fun _ => seq b) = _
    rw [Prog.bind_assoc]
    rw [ih]; rfl

/-- One operation is the straight line of that operation. -/
theorem isSeq_last {op : HloOp τ sig (Elt Ideal)} :
    IsSeq (nD := nD) (Λ := Pipeline.Sig Λ₀ (Fin 0) fun p => (pcfgs (F := Ideal) p).Adm) (hlo rfl op fun _ => .ret (⟨⟩ : PUnit)) [op] := rfl

/-- The operations of one call of the reference's argmin. -/
noncomputable def argminLine (x : TRef sig ⟨S16384x1024, .f32⟩) (φ : fn_argmin.Bufs) :
    { ops : List (HloOp τ sig (Elt Ideal)) // IsSeq (fn_argmin.body (F := Ideal) x φ) ops } := by
  apply Subtype.mk
  case property => unfold fn_argmin.body; hlo_seq

/-- The operations of one call of the reference's select. -/
noncomputable def whereLine (x : TRef sig ⟨S16384, .i1⟩) (y z : TRef sig ⟨S16384, .i32⟩) (φ : fn_where.Bufs) :
    { ops : List (HloOp τ sig (Elt Ideal)) // IsSeq (fn_where.body (F := Ideal) x y z φ) ops } := by
  apply Subtype.mk
  case property => unfold fn_where.body; hlo_seq

/-- The operations of one call of the reference's row lookup. -/
noncomputable def takeLine (x : TRef sig ⟨S1024x256, .f32⟩) (y : TRef sig ⟨S16384, .i32⟩) (φ : fn_take.Bufs) :
    { ops : List (HloOp τ sig (Elt Ideal)) // IsSeq (fn_take.body (F := Ideal) x y φ) ops } := by
  apply Subtype.mk
  case property =>
    unfold fn_take.body
    repeat (with_reducible first
      | exact Idealize.ShloMosaic.StableHlo.IsSeq.nil
      | apply Idealize.ShloMosaic.StableHlo.IsSeq.cons
      | apply isSeq_append (whereLine _ _ _ _).2)

/-- The operations of the first stretch of the reference program. -/
noncomputable def line0 : { ops : List (HloOp τ sig (Elt Ideal)) // ∀ d : Dev nD, IsSeq (main_part0 (F := Ideal) d) ops } := by
  apply Subtype.mk
  case property =>
    intro d
    unfold main_part0
    repeat (with_reducible first
      | exact Idealize.ShloMosaic.StableHlo.IsSeq.nil
      | apply Idealize.ShloMosaic.StableHlo.IsSeq.cons
      | exact isSeq_last
      | apply isSeq_append (argminLine _ _).2
      | apply isSeq_append (takeLine _ _ _).2)

/-- The operations of the second stretch of the reference program. -/
noncomputable def line1 : { ops : List (HloOp τ sig (Elt Ideal)) // ∀ d : Dev nD, IsSeq (main_part1 (F := Ideal) d) ops } := by
  apply Subtype.mk
  case property =>
    intro d
    unfold main_part1
    repeat (with_reducible first
      | exact Idealize.ShloMosaic.StableHlo.IsSeq.nil
      | apply Idealize.ShloMosaic.StableHlo.IsSeq.cons
      | exact isSeq_last
      | apply isSeq_append (argminLine _ _).2
      | apply isSeq_append (takeLine _ _ _).2)

/-- The operations of the last stretch of the reference program. -/
noncomputable def line2 : { ops : List (HloOp τ sig (Elt Ideal)) // ∀ d : Dev nD, IsSeq (main_part2 (F := Ideal) d) ops } := by
  apply Subtype.mk
  case property =>
    intro d
    unfold main_part2
    repeat (with_reducible first
      | exact Idealize.ShloMosaic.StableHlo.IsSeq.nil
      | apply Idealize.ShloMosaic.StableHlo.IsSeq.cons
      | exact isSeq_last
      | apply isSeq_append (argminLine _ _).2
      | apply isSeq_append (takeLine _ _ _).2)

/-- All operations of the reference program, in order. -/
noncomputable def line : List (HloOp τ sig (Elt Ideal)) := line0.1 ++ (line1.1 ++ line2.1)

/-- The reference program is the straight line of its operations. -/
theorem main_line (d : Dev nD) : IsSeq (main (F := Ideal) d) line :=
  isSeq_append (line0.2 d) (isSeq_append (line1.2 d) (line2.2 d))

/-- Every operation of the reference program touches buffers of the one core only. -/
theorem line_bufs : line.Forall fun op => op.bufs ⊆ tcRefs τ sig := by
  simp [line, line0, line1, line2, argminLine, takeLine, whereLine]

/-- No operation of the reference program makes a fresh buffer. -/
theorem line_fresh : ∀ op ∈ line, op.fresh = ∅ := by
  have h : line.Forall fun op => op.fresh = ∅ := by
    simp only [line, line0, line1, line2, argminLine, takeLine, whereLine, List.cons_append, List.nil_append]
    repeat (first | exact trivial | refine ⟨rfl, ?_⟩ | exact rfl)
  exact List.forall_iff_forall_mem.mp h

/-- The reference program runs, and leaves in every buffer what its operations leave there. -/
theorem run (m : (ℓ : Loc nD τ sig) → Buf (Elt Ideal) ℓ) (ρ : Dev nD → PrngReg) :
    θ_run defs (onTc (τ := τ) main) ⟨m, fun _ => 0, ρ⟩ fun r =>
      ∀ (d : Dev nD) (b : Ref sig .tc),
        r.2.mem ((d.tc : Thread nD τ).loc b) = after line (launchContents m d) (Proc.devRef .tc b) :=
  run_hlo _ _ main_line (by decide) (by decide) line_bufs line_fresh m ρ

end Cert.Rvq.Ref
-- ==== Proof.RefRead.lean ====
/- What one level of the reference program leaves behind, as functions of whole arrays. -/
module

public import proofs.«01_k».proof.Proof.RefRun

@[expose] public section

set_option maxRecDepth 16384

noncomputable section

namespace Cert.Rvq.Ref

open Idealize.ShloMosaic Idealize.SL.Sem Idealize.ShloMosaic.StableHlo Cert.ReferenceIdeal Cert.ReferenceIdeal.Facts₀

/-- The distances of every row to every code of one codebook, before the smallest is taken. -/
def distOf (r : FVec Ideal S16384x256 .f32) (cb : FVec Ideal S1024x256 .f32) : FVec Ideal S16384x1024 .f32 :=
  subf
    (addf
      (broadcastInDim S16384x1024 ![0, 1] bcast_S16384x1_S16384x1024_0_1
        (broadcastInDim S16384x1 ![0] bcast_S16384_S16384x1_0
          (Host.reduceAdd (mulf r r) (constant S_ .f32 0x00000000#32) reducesTo_S16384x256_S16384_d1 h_S_)))
      (broadcastInDim S16384x1024 ![0, 1] bcast_S1x1024_S16384x1024_0_1
        (broadcastInDim S1x1024 ![1] bcast_S1024_S1x1024_1
          (Host.reduceAdd (mulf cb cb) (constant S_ .f32 0x00000000#32) reducesTo_S1024x256_S1024_d1 h_S_))))
    (Host.dotGeneral dot_S16384x256_S256x1024_S16384x1024_1_0_0_1_n_n none
      (mulf (broadcastInDim S16384x256 ![] bcast_S_S16384x256 (constant S_ .f32 0x40000000#32)) r)
      (transpose S256x1024 [1, 0] cb transposes_S1024x256_S256x1024_1_0))

/-- The code of every row: where its distances are smallest. -/
def codeOf (d : FVec Ideal S16384x1024 .f32) : IVec S16384 32 := fun j =>
  (Host.argReduce reducer_argmin_f32_i32 d (iotaInDim S16384x1024 32 1) (constant S_ .f32 0x7F800000#32)
    (constantI S_ 32 0#32) reducesTo_S16384x1024_S16384_d1 h_S_ j).2

/-- The codes as row numbers of the codebook, a negative one counted from the end. -/
def rowsOf (k : IVec S16384 32) : IVec S16384x1 32 :=
  broadcastInDim S16384x1 ![0] bcast_S16384_S16384x1_0
    (select (cmpi .slt k (broadcastInDim S16384 ![] bcast_S_S16384 (constantI S_ 32 0#32)))
      (addi k (broadcastInDim S16384 ![] bcast_S_S16384 (constantI S_ 32 1024#32))) k)

/-- The codebook rows that the codes name. -/
def takeOf (cb : FVec Ideal S1024x256 .f32) (k : IVec S16384 32) : FVec Ideal S16384x256 .f32 :=
  select
    (broadcastInDim S16384x256 ![0] bcast_S16384_S16384x256_0
      (Host.reduce IntOp.andi
        (andi
          (cmpi .sge (rowsOf k) (broadcastInDim S16384x1 ![] bcast_S_S16384x1 (constantI S_ 32 0#32)))
          (cmpi .sle (rowsOf k) (broadcastInDim S16384x1 ![0, 1] bcast_S1x1_S16384x1_0_1
            (broadcastInDim S1x1 ![1] bcast_S1_S1x1_1 (constantI S1 32 1023#32)))))
        (constantI S_ 1 1#1) reducesTo_S16384x1_S16384_d1 h_S_))
    (Host.gather gather_S1024x256_S16384x1_S16384x256_1_0_n_n_0_1_1256 cb (rowsOf k))
    (broadcastInDim S16384x256 ![] bcast_S_S16384x256 (constant S_ .f32 0x7FC00000#32))

/-- The mean square difference of two arrays. -/
def meanOf (q r : FVec Ideal S16384x256 .f32) : FVec Ideal S_ .f32 :=
  Host.divf
    (Host.reduceAdd (mulf (subf q r) (subf q r)) (constant S_ .f32 0x00000000#32) reducesTo_S16384x256_S_d0_1 h_S_)
    (constant S_ .f32 0x4A800000#32)

/-- The reconstruction `a` with one level added, from its residual `r` and the rows `q` looked up. -/
def recOf (a r q : FVec Ideal S16384x256 .f32) : FVec Ideal S16384x256 .f32 := addf a (addf r (subf q r))

/-- What is left of `x` after one level. -/
def restOf (x a r q : FVec Ideal S16384x256 .f32) : FVec Ideal S16384x256 .f32 := subf x (recOf a r q)

/-- The loss `l` with one level added. -/
def lossOf (l : FVec Ideal S_ .f32) (r q : FVec Ideal S16384x256 .f32) : FVec Ideal S_ .f32 :=
  addf l (addf (meanOf q r) (meanOf q r))

/-- The codes that one level gives the residual `r` by the codebook `cb`. -/
def levelCode (r : FVec Ideal S16384x256 .f32) (cb : FVec Ideal S1024x256 .f32) : IVec S16384 32 := codeOf (distOf r cb)

/-- The codebook rows that one level chooses. -/
def levelRow (r : FVec Ideal S16384x256 .f32) (cb : FVec Ideal S1024x256 .f32) : FVec Ideal S16384x256 .f32 :=
  takeOf cb (levelCode r cb)

/-- The first codebook. -/
def book0 (b : FVec Ideal S4x1024x256 .f32) : FVec Ideal S1024x256 .f32 :=
  shapeCast S1024x256 (extractStridedSlice S1x1024x256 ![0, 0, 0] b slices_S4x1024x256_S1x1024x256_0_0_0)
    shapeCasts_S1x1024x256_S1024x256

/-- The second codebook. -/
def book1 (b : FVec Ideal S4x1024x256 .f32) : FVec Ideal S1024x256 .f32 :=
  shapeCast S1024x256 (extractStridedSlice S1x1024x256 ![1, 0, 0] b slices_S4x1024x256_S1x1024x256_1_0_0)
    shapeCasts_S1x1024x256_S1024x256

/-- The third codebook. -/
def book2 (b : FVec Ideal S4x1024x256 .f32) : FVec Ideal S1024x256 .f32 :=
  shapeCast S1024x256 (extractStridedSlice S1x1024x256 ![2, 0, 0] b slices_S4x1024x256_S1x1024x256_2_0_0)
    shapeCasts_S1x1024x256_S1024x256

/-- The fourth codebook. -/
def book3 (b : FVec Ideal S4x1024x256 .f32) : FVec Ideal S1024x256 .f32 :=
  shapeCast S1024x256 (extractStridedSlice S1x1024x256 ![3, 0, 0] b slices_S4x1024x256_S1x1024x256_3_0_0)
    shapeCasts_S1x1024x256_S1024x256

/-- The codebook of level `k`. -/
def bookAt (b : FVec Ideal S4x1024x256 .f32) : ℕ → FVec Ideal S1024x256 .f32
  | 0 => book0 b
  | 1 => book1 b
  | 2 => book2 b
  | _ => book3 b

/-- The array of zeros. -/
def zeros : FVec Ideal S16384x256 .f32 :=
  broadcastInDim S16384x256 ![] bcast_S_S16384x256 (constant S_ .f32 0x00000000#32)

/-- The reconstruction and the residual before level `k`. -/
def stateAt (x : FVec Ideal S16384x256 .f32) (b : FVec Ideal S4x1024x256 .f32) :
    ℕ → FVec Ideal S16384x256 .f32 × FVec Ideal S16384x256 .f32
  | 0 => (zeros, x)
  | k + 1 =>
    (recOf (stateAt x b k).1 (stateAt x b k).2 (levelRow (stateAt x b k).2 (bookAt b k)),
      restOf x (stateAt x b k).1 (stateAt x b k).2 (levelRow (stateAt x b k).2 (bookAt b k)))

/-- The codes of level `k`. -/
def codesAt (x : FVec Ideal S16384x256 .f32) (b : FVec Ideal S4x1024x256 .f32) (k : ℕ) : IVec S16384 32 :=
  levelCode (stateAt x b k).2 (bookAt b k)

/-- The loss before level `k`. -/
def lossAt (x : FVec Ideal S16384x256 .f32) (b : FVec Ideal S4x1024x256 .f32) : ℕ → FVec Ideal S_ .f32
  | 0 => constant S_ .f32 0x00000000#32
  | k + 1 => lossOf (lossAt x b k) (stateAt x b k).2 (levelRow (stateAt x b k).2 (bookAt b k))

/-- The codes of the four levels side by side. -/
def stackOf (k0 k1 k2 k3 : IVec S16384 32) : IVec S16384x4 32 :=
  concatenate S16384x4 1
    [⟨S16384x1, broadcastInDim S16384x1 ![0] bcast_S16384_S16384x1_0 k0⟩,
      ⟨S16384x1, broadcastInDim S16384x1 ![0] bcast_S16384_S16384x1_0 k1⟩,
      ⟨S16384x1, broadcastInDim S16384x1 ![0] bcast_S16384_S16384x1_0 k2⟩,
      ⟨S16384x1, broadcastInDim S16384x1 ![0] bcast_S16384_S16384x1_0 k3⟩]
    concatenates_S16384x1_S16384x1_S16384x1_S16384x1_S16384x4_d1

/-- The operations of the first level up to its distances. -/
def seg0A : List (HloOp τ sig (Elt Ideal)) := (line.drop 0).take 21

/-- The operations of the first level that take the codes. -/
def seg0B : List (HloOp τ sig (Elt Ideal)) := (line.drop 21).take 5

/-- The operations of the first level that look the rows up. -/
def seg0C : List (HloOp τ sig (Elt Ideal)) := (line.drop 26).take 23

/-- The operations of the first level after the lookup. -/
def seg0D : List (HloOp τ sig (Elt Ideal)) := (line.drop 49).take 19

/-- The operations of the first level. -/
def seg0 : List (HloOp τ sig (Elt Ideal)) := seg0A ++ (seg0B ++ (seg0C ++ seg0D))

/-- The operations of the second level up to its distances. -/
def seg1A : List (HloOp τ sig (Elt Ideal)) := (line.drop 68).take 19

/-- The operations of the second level that take the codes. -/
def seg1B : List (HloOp τ sig (Elt Ideal)) := (line.drop 87).take 5

/-- The operations of the second level that look the rows up. -/
def seg1C : List (HloOp τ sig (Elt Ideal)) := (line.drop 92).take 23

/-- The operations of the second level after the lookup. -/
def seg1D : List (HloOp τ sig (Elt Ideal)) := (line.drop 115).take 18

/-- The operations of the second level. -/
def seg1 : List (HloOp τ sig (Elt Ideal)) := seg1A ++ (seg1B ++ (seg1C ++ seg1D))

/-- The operations of the third level up to its distances. -/
def seg2A : List (HloOp τ sig (Elt Ideal)) := (line.drop 133).take 19

/-- The operations of the third level that take the codes. -/
def seg2B : List (HloOp τ sig (Elt Ideal)) := (line.drop 152).take 5

/-- The operations of the third level that look the rows up. -/
def seg2C : List (HloOp τ sig (Elt Ideal)) := (line.drop 157).take 23

/-- The operations of the third level after the lookup. -/
def seg2D : List (HloOp τ sig (Elt Ideal)) := (line.drop 180).take 18

/-- The operations of the third level. -/
def seg2 : List (HloOp τ sig (Elt Ideal)) := seg2A ++ (seg2B ++ (seg2C ++ seg2D))

/-- The operations of the fourth level up to its distances. -/
def seg3A : List (HloOp τ sig (Elt Ideal)) := (line.drop 198).take 19

/-- The operations of the fourth level that take the codes. -/
def seg3B : List (HloOp τ sig (Elt Ideal)) := (line.drop 217).take 5

/-- The operations of the fourth level that look the rows up. -/
def seg3C : List (HloOp τ sig (Elt Ideal)) := (line.drop 222).take 23

/-- The operations of the fourth level after the lookup. -/
def seg3D : List (HloOp τ sig (Elt Ideal)) := (line.drop 245).take 18

/-- The operations of the fourth level. -/
def seg3 : List (HloOp τ sig (Elt Ideal)) := seg3A ++ (seg3B ++ (seg3C ++ seg3D))

/-- The operations that stack the codes. -/
def seg4 : List (HloOp τ sig (Elt Ideal)) := line.drop 263

/-- The reference program's operations, level by level. -/
theorem line_segs : line = seg0 ++ (seg1 ++ (seg2 ++ (seg3 ++ seg4))) := rfl

/-- The distances of the first level. -/
theorem seg0A_reads (W : Valuation τ sig (Elt Ideal)) :
    after seg0A W (Proc.devRef .tc main_v16) = distOf (W (Proc.devRef .tc main_arg0)) (book0 (W (Proc.devRef .tc main_arg1))) ∧
    after seg0A W (Proc.devRef .tc main_v2) = book0 (W (Proc.devRef .tc main_arg1)) ∧
    after seg0A W (Proc.devRef .tc main_v0) = zeros ∧
    after seg0A W (Proc.devRef .tc main_arg0) = W (Proc.devRef .tc main_arg0) ∧
    after seg0A W (Proc.devRef .tc main_arg1) = W (Proc.devRef .tc main_arg1) := by
  refine ⟨?_, ?_, ?_, ?_, ?_⟩ <;> (after_reads_simp; (try simp only [TRef.ofBuf_toBuf]); try rfl)

/-- The codes of the first level. -/
theorem seg0B_reads (W : Valuation τ sig (Elt Ideal)) :
    after seg0B W (Proc.devRef .tc main_v17) = codeOf (W (Proc.devRef .tc main_v16)) ∧
    after seg0B W (Proc.devRef .tc main_arg0) = W (Proc.devRef .tc main_arg0) ∧
    after seg0B W (Proc.devRef .tc main_arg1) = W (Proc.devRef .tc main_arg1) ∧
    after seg0B W (Proc.devRef .tc main_v2) = W (Proc.devRef .tc main_v2) ∧
    after seg0B W (Proc.devRef .tc main_v0) = W (Proc.devRef .tc main_v0) := by
  refine ⟨?_, ?_, ?_, ?_, ?_⟩ <;> (after_reads_simp; (try simp only [TRef.ofBuf_toBuf]); try rfl)

/-- The rows that the first level looks up. -/
theorem seg0C_reads (W : Valuation τ sig (Elt Ideal)) :
    after seg0C W (Proc.devRef .tc main_v18) = takeOf (W (Proc.devRef .tc main_v2)) (W (Proc.devRef .tc main_v17)) ∧
    after seg0C W (Proc.devRef .tc main_arg0) = W (Proc.devRef .tc main_arg0) ∧
    after seg0C W (Proc.devRef .tc main_arg1) = W (Proc.devRef .tc main_arg1) ∧
    after seg0C W (Proc.devRef .tc main_v17) = W (Proc.devRef .tc main_v17) ∧
    after seg0C W (Proc.devRef .tc main_v0) = W (Proc.devRef .tc main_v0) := by
  refine ⟨?_, ?_, ?_, ?_, ?_⟩ <;> after_reads_simp
  simp only [TRef.ofBuf_toBuf]
  unfold takeOf rowsOf
  simp -implicitDefEqProofs only [TRef.toBuf, TRef.ofBuf, cast_eq]

/-- The results of the first level. -/
theorem seg0D_reads (W : Valuation τ sig (Elt Ideal)) :
    after seg0D W (Proc.devRef .tc main_v30) = recOf (W (Proc.devRef .tc main_v0)) (W (Proc.devRef .tc main_arg0)) (W (Proc.devRef .tc main_v18)) ∧
    after seg0D W (Proc.devRef .tc main_v31) = restOf (W (Proc.devRef .tc main_arg0)) (W (Proc.devRef .tc main_v0)) (W (Proc.devRef .tc main_arg0)) (W (Proc.devRef .tc main_v18)) ∧
    after seg0D W (Proc.devRef .tc main_v32) = lossOf (constant S_ .f32 0x00000000#32) (W (Proc.devRef .tc main_arg0)) (W (Proc.devRef .tc main_v18)) ∧
    after seg0D W (Proc.devRef .tc main_arg0) = W (Proc.devRef .tc main_arg0) ∧
    after seg0D W (Proc.devRef .tc main_arg1) = W (Proc.devRef .tc main_arg1) ∧
    after seg0D W (Proc.devRef .tc main_v17) = W (Proc.devRef .tc main_v17) := by
  refine ⟨?_, ?_, ?_, ?_, ?_, ?_⟩ <;> (after_reads_simp; (try simp only [TRef.ofBuf_toBuf]); try rfl)

/-- What the first level leaves behind. -/
theorem seg0_reads (W : Valuation τ sig (Elt Ideal)) :
    after seg0 W (Proc.devRef .tc main_v17) = levelCode (W (Proc.devRef .tc main_arg0)) (book0 (W (Proc.devRef .tc main_arg1))) ∧
    after seg0 W (Proc.devRef .tc main_v30) = recOf zeros (W (Proc.devRef .tc main_arg0)) (levelRow (W (Proc.devRef .tc main_arg0)) (book0 (W (Proc.devRef .tc main_arg1)))) ∧
    after seg0 W (Proc.devRef .tc main_v31) = restOf (W (Proc.devRef .tc main_arg0)) zeros (W (Proc.devRef .tc main_arg0)) (levelRow (W (Proc.devRef .tc main_arg0)) (book0 (W (Proc.devRef .tc main_arg1)))) ∧
    after seg0 W (Proc.devRef .tc main_v32) = lossOf (constant S_ .f32 0x00000000#32) (W (Proc.devRef .tc main_arg0)) (levelRow (W (Proc.devRef .tc main_arg0)) (book0 (W (Proc.devRef .tc main_arg1)))) ∧
    after seg0 W (Proc.devRef .tc main_arg0) = W (Proc.devRef .tc main_arg0) ∧
    after seg0 W (Proc.devRef .tc main_arg1) = W (Proc.devRef .tc main_arg1) := by
  rw [seg0, after_append, after_append, after_append]
  have hD := seg0D_reads (after seg0C (after seg0B (after seg0A W)))
  have hC := seg0C_reads (after seg0B (after seg0A W))
  have hB := seg0B_reads (after seg0A W)
  have hA := seg0A_reads W
  simp only [hD, hC, hB, hA, levelCode, levelRow, and_self]

/-- The distances of the second level. -/
theorem seg1A_reads (W : Valuation τ sig (Elt Ideal)) :
    after seg1A W (Proc.devRef .tc main_v48) = distOf (W (Proc.devRef .tc main_v31)) (book1 (W (Proc.devRef .tc main_arg1))) ∧
    after seg1A W (Proc.devRef .tc main_v34) = book1 (W (Proc.devRef .tc main_arg1)) ∧
    after seg1A W (Proc.devRef .tc main_arg0) = W (Proc.devRef .tc main_arg0) ∧
    after seg1A W (Proc.devRef .tc main_arg1) = W (Proc.devRef .tc main_arg1) ∧
    after seg1A W (Proc.devRef .tc main_v31) = W (Proc.devRef .tc main_v31) ∧
    after seg1A W (Proc.devRef .tc main_v30) = W (Proc.devRef .tc main_v30) ∧
    after seg1A W (Proc.devRef .tc main_v32) = W (Proc.devRef .tc main_v32) ∧
    after seg1A W (Proc.devRef .tc main_v17) = W (Proc.devRef .tc main_v17) := by
  refine ⟨?_, ?_, ?_, ?_, ?_, ?_, ?_, ?_⟩ <;> (after_reads_simp; (try simp only [TRef.ofBuf_toBuf]); try rfl)

/-- The codes of the second level. -/
theorem seg1B_reads (W : Valuation τ sig (Elt Ideal)) :
    after seg1B W (Proc.devRef .tc main_v49) = codeOf (W (Proc.devRef .tc main_v48)) ∧
    after seg1B W (Proc.devRef .tc main_arg0) = W (Proc.devRef .tc main_arg0) ∧
    after seg1B W (Proc.devRef .tc main_arg1) = W (Proc.devRef .tc main_arg1) ∧
    after seg1B W (Proc.devRef .tc main_v31) = W (Proc.devRef .tc main_v31) ∧
    after seg1B W (Proc.devRef .tc main_v30) = W (Proc.devRef .tc main_v30) ∧
    after seg1B W (Proc.devRef .tc main_v32) = W (Proc.devRef .tc main_v32) ∧
    after seg1B W (Proc.devRef .tc main_v17) = W (Proc.devRef .tc main_v17) ∧
    after seg1B W (Proc.devRef .tc main_v34) = W (Proc.devRef .tc main_v34) := by
  refine ⟨?_, ?_, ?_, ?_, ?_, ?_, ?_, ?_⟩ <;> (after_reads_simp; (try simp only [TRef.ofBuf_toBuf]); try rfl)

/-- The rows that the second level looks up. -/
theorem seg1C_reads (W : Valuation τ sig (Elt Ideal)) :
    after seg1C W (Proc.devRef .tc main_v50) = takeOf (W (Proc.devRef .tc main_v34)) (W (Proc.devRef .tc main_v49)) ∧
    after seg1C W (Proc.devRef .tc main_arg0) = W (Proc.devRef .tc main_arg0) ∧
    after seg1C W (Proc.devRef .tc main_arg1) = W (Proc.devRef .tc main_arg1) ∧
    after seg1C W (Proc.devRef .tc main_v31) = W (Proc.devRef .tc main_v31) ∧
    after seg1C W (Proc.devRef .tc main_v30) = W (Proc.devRef .tc main_v30) ∧
    after seg1C W (Proc.devRef .tc main_v32) = W (Proc.devRef .tc main_v32) ∧
    after seg1C W (Proc.devRef .tc main_v17) = W (Proc.devRef .tc main_v17) ∧
    after seg1C W (Proc.devRef .tc main_v49) = W (Proc.devRef .tc main_v49) := by
  refine ⟨?_, ?_, ?_, ?_, ?_, ?_, ?_, ?_⟩ <;> after_reads_simp
  simp only [TRef.ofBuf_toBuf]
  unfold takeOf rowsOf
  simp -implicitDefEqProofs only [TRef.toBuf, TRef.ofBuf, cast_eq]

/-- The results of the second level. -/
theorem seg1D_reads (W : Valuation τ sig (Elt Ideal)) :
    after seg1D W (Proc.devRef .tc main_v62) = recOf (W (Proc.devRef .tc main_v30)) (W (Proc.devRef .tc main_v31)) (W (Proc.devRef .tc main_v50)) ∧
    after seg1D W (Proc.devRef .tc main_v63) = restOf (W (Proc.devRef .tc main_arg0)) (W (Proc.devRef .tc main_v30)) (W (Proc.devRef .tc main_v31)) (W (Proc.devRef .tc main_v50)) ∧
    after seg1D W (Proc.devRef .tc main_v64) = lossOf (W (Proc.devRef .tc main_v32)) (W (Proc.devRef .tc main_v31)) (W (Proc.devRef .tc main_v50)) ∧
    after seg1D W (Proc.devRef .tc main_arg0) = W (Proc.devRef .tc main_arg0) ∧
    after seg1D W (Proc.devRef .tc main_arg1) = W (Proc.devRef .tc main_arg1) ∧
    after seg1D W (Proc.devRef .tc main_v17) = W (Proc.devRef .tc main_v17) ∧
    after seg1D W (Proc.devRef .tc main_v49) = W (Proc.devRef .tc main_v49) := by
  refine ⟨?_, ?_, ?_, ?_, ?_, ?_, ?_⟩ <;> (after_reads_simp; (try simp only [TRef.ofBuf_toBuf]); try rfl)

/-- What the second level leaves behind. -/
theorem seg1_reads (W : Valuation τ sig (Elt Ideal)) :
    after seg1 W (Proc.devRef .tc main_v49) = levelCode (W (Proc.devRef .tc main_v31)) (book1 (W (Proc.devRef .tc main_arg1))) ∧
    after seg1 W (Proc.devRef .tc main_v62) = recOf (W (Proc.devRef .tc main_v30)) (W (Proc.devRef .tc main_v31)) (levelRow (W (Proc.devRef .tc main_v31)) (book1 (W (Proc.devRef .tc main_arg1)))) ∧
    after seg1 W (Proc.devRef .tc main_v63) = restOf (W (Proc.devRef .tc main_arg0)) (W (Proc.devRef .tc main_v30)) (W (Proc.devRef .tc main_v31)) (levelRow (W (Proc.devRef .tc main_v31)) (book1 (W (Proc.devRef .tc main_arg1)))) ∧
    after seg1 W (Proc.devRef .tc main_v64) = lossOf (W (Proc.devRef .tc main_v32)) (W (Proc.devRef .tc main_v31)) (levelRow (W (Proc.devRef .tc main_v31)) (book1 (W (Proc.devRef .tc main_arg1)))) ∧
    after seg1 W (Proc.devRef .tc main_arg0) = W (Proc.devRef .tc main_arg0) ∧
    after seg1 W (Proc.devRef .tc main_arg1) = W (Proc.devRef .tc main_arg1) ∧
    after seg1 W (Proc.devRef .tc main_v17) = W (Proc.devRef .tc main_v17) := by
  rw [seg1, after_append, after_append, after_append]
  have hD := seg1D_reads (after seg1C (after seg1B (after seg1A W)))
  have hC := seg1C_reads (after seg1B (after seg1A W))
  have hB := seg1B_reads (after seg1A W)
  have hA := seg1A_reads W
  simp only [hD, hC, hB, hA, levelCode, levelRow, and_self]

/-- The distances of the third level. -/
theorem seg2A_reads (W : Valuation τ sig (Elt Ideal)) :
    after seg2A W (Proc.devRef .tc main_v80) = distOf (W (Proc.devRef .tc main_v63)) (book2 (W (Proc.devRef .tc main_arg1))) ∧
    after seg2A W (Proc.devRef .tc main_v66) = book2 (W (Proc.devRef .tc main_arg1)) ∧
    after seg2A W (Proc.devRef .tc main_arg0) = W (Proc.devRef .tc main_arg0) ∧
    after seg2A W (Proc.devRef .tc main_arg1) = W (Proc.devRef .tc main_arg1) ∧
    after seg2A W (Proc.devRef .tc main_v63) = W (Proc.devRef .tc main_v63) ∧
    after seg2A W (Proc.devRef .tc main_v62) = W (Proc.devRef .tc main_v62) ∧
    after seg2A W (Proc.devRef .tc main_v64) = W (Proc.devRef .tc main_v64) ∧
    after seg2A W (Proc.devRef .tc main_v17) = W (Proc.devRef .tc main_v17) ∧
    after seg2A W (Proc.devRef .tc main_v49) = W (Proc.devRef .tc main_v49) := by
  refine ⟨?_, ?_, ?_, ?_, ?_, ?_, ?_, ?_, ?_⟩ <;> (after_reads_simp; (try simp only [TRef.ofBuf_toBuf]); try rfl)

/-- The codes of the third level. -/
theorem seg2B_reads (W : Valuation τ sig (Elt Ideal)) :
    after seg2B W (Proc.devRef .tc main_v81) = codeOf (W (Proc.devRef .tc main_v80)) ∧
    after seg2B W (Proc.devRef .tc main_arg0) = W (Proc.devRef .tc main_arg0) ∧
    after seg2B W (Proc.devRef .tc main_arg1) = W (Proc.devRef .tc main_arg1) ∧
    after seg2B W (Proc.devRef .tc main_v63) = W (Proc.devRef .tc main_v63) ∧
    after seg2B W (Proc.devRef .tc main_v62) = W (Proc.devRef .tc main_v62) ∧
    after seg2B W (Proc.devRef .tc main_v64) = W (Proc.devRef .tc main_v64) ∧
    after seg2B W (Proc.devRef .tc main_v17) = W (Proc.devRef .tc main_v17) ∧
    after seg2B W (Proc.devRef .tc main_v49) = W (Proc.devRef .tc main_v49) ∧
    after seg2B W (Proc.devRef .tc main_v66) = W (Proc.devRef .tc main_v66) := by
  refine ⟨?_, ?_, ?_, ?_, ?_, ?_, ?_, ?_, ?_⟩ <;> (after_reads_simp; (try simp only [TRef.ofBuf_toBuf]); try rfl)

/-- The rows that the third level looks up. -/
theorem seg2C_reads (W : Valuation τ sig (Elt Ideal)) :
    after seg2C W (Proc.devRef .tc main_v82) = takeOf (W (Proc.devRef .tc main_v66)) (W (Proc.devRef .tc main_v81)) ∧
    after seg2C W (Proc.devRef .tc main_arg0) = W (Proc.devRef .tc main_arg0) ∧
    after seg2C W (Proc.devRef .tc main_arg1) = W (Proc.devRef .tc main_arg1) ∧
    after seg2C W (Proc.devRef .tc main_v63) = W (Proc.devRef .tc main_v63) ∧
    after seg2C W (Proc.devRef .tc main_v62) = W (Proc.devRef .tc main_v62) ∧
    after seg2C W (Proc.devRef .tc main_v64) = W (Proc.devRef .tc main_v64) ∧
    after seg2C W (Proc.devRef .tc main_v17) = W (Proc.devRef .tc main_v17) ∧
    after seg2C W (Proc.devRef .tc main_v49) = W (Proc.devRef .tc main_v49) ∧
    after seg2C W (Proc.devRef .tc main_v81) = W (Proc.devRef .tc main_v81) := by
  refine ⟨?_, ?_, ?_, ?_, ?_, ?_, ?_, ?_, ?_⟩ <;> after_reads_simp
  simp only [TRef.ofBuf_toBuf]
  unfold takeOf rowsOf
  simp -implicitDefEqProofs only [TRef.toBuf, TRef.ofBuf, cast_eq]

/-- The results of the third level. -/
theorem seg2D_reads (W : Valuation τ sig (Elt Ideal)) :
    after seg2D W (Proc.devRef .tc main_v94) = recOf (W (Proc.devRef .tc main_v62)) (W (Proc.devRef .tc main_v63)) (W (Proc.devRef .tc main_v82)) ∧
    after seg2D W (Proc.devRef .tc main_v95) = restOf (W (Proc.devRef .tc main_arg0)) (W (Proc.devRef .tc main_v62)) (W (Proc.devRef .tc main_v63)) (W (Proc.devRef .tc main_v82)) ∧
    after seg2D W (Proc.devRef .tc main_v96) = lossOf (W (Proc.devRef .tc main_v64)) (W (Proc.devRef .tc main_v63)) (W (Proc.devRef .tc main_v82)) ∧
    after seg2D W (Proc.devRef .tc main_arg0) = W (Proc.devRef .tc main_arg0) ∧
    after seg2D W (Proc.devRef .tc main_arg1) = W (Proc.devRef .tc main_arg1) ∧
    after seg2D W (Proc.devRef .tc main_v17) = W (Proc.devRef .tc main_v17) ∧
    after seg2D W (Proc.devRef .tc main_v49) = W (Proc.devRef .tc main_v49) ∧
    after seg2D W (Proc.devRef .tc main_v81) = W (Proc.devRef .tc main_v81) := by
  refine ⟨?_, ?_, ?_, ?_, ?_, ?_, ?_, ?_⟩ <;> (after_reads_simp; (try simp only [TRef.ofBuf_toBuf]); try rfl)

/-- What the third level leaves behind. -/
theorem seg2_reads (W : Valuation τ sig (Elt Ideal)) :
    after seg2 W (Proc.devRef .tc main_v81) = levelCode (W (Proc.devRef .tc main_v63)) (book2 (W (Proc.devRef .tc main_arg1))) ∧
    after seg2 W (Proc.devRef .tc main_v94) = recOf (W (Proc.devRef .tc main_v62)) (W (Proc.devRef .tc main_v63)) (levelRow (W (Proc.devRef .tc main_v63)) (book2 (W (Proc.devRef .tc main_arg1)))) ∧
    after seg2 W (Proc.devRef .tc main_v95) = restOf (W (Proc.devRef .tc main_arg0)) (W (Proc.devRef .tc main_v62)) (W (Proc.devRef .tc main_v63)) (levelRow (W (Proc.devRef .tc main_v63)) (book2 (W (Proc.devRef .tc main_arg1)))) ∧
    after seg2 W (Proc.devRef .tc main_v96) = lossOf (W (Proc.devRef .tc main_v64)) (W (Proc.devRef .tc main_v63)) (levelRow (W (Proc.devRef .tc main_v63)) (book2 (W (Proc.devRef .tc main_arg1)))) ∧
    after seg2 W (Proc.devRef .tc main_arg0) = W (Proc.devRef .tc main_arg0) ∧
    after seg2 W (Proc.devRef .tc main_arg1) = W (Proc.devRef .tc main_arg1) ∧
    after seg2 W (Proc.devRef .tc main_v17) = W (Proc.devRef .tc main_v17) ∧
    after seg2 W (Proc.devRef .tc main_v49) = W (Proc.devRef .tc main_v49) := by
  rw [seg2, after_append, after_append, after_append]
  have hD := seg2D_reads (after seg2C (after seg2B (after seg2A W)))
  have hC := seg2C_reads (after seg2B (after seg2A W))
  have hB := seg2B_reads (after seg2A W)
  have hA := seg2A_reads W
  simp only [hD, hC, hB, hA, levelCode, levelRow, and_self]

/-- The distances of the fourth level. -/
theorem seg3A_reads (W : Valuation τ sig (Elt Ideal)) :
    after seg3A W (Proc.devRef .tc main_v112) = distOf (W (Proc.devRef .tc main_v95)) (book3 (W (Proc.devRef .tc main_arg1))) ∧
    after seg3A W (Proc.devRef .tc main_v98) = book3 (W (Proc.devRef .tc main_arg1)) ∧
    after seg3A W (Proc.devRef .tc main_arg0) = W (Proc.devRef .tc main_arg0) ∧
    after seg3A W (Proc.devRef .tc main_arg1) = W (Proc.devRef .tc main_arg1) ∧
    after seg3A W (Proc.devRef .tc main_v95) = W (Proc.devRef .tc main_v95) ∧
    after seg3A W (Proc.devRef .tc main_v94) = W (Proc.devRef .tc main_v94) ∧
    after seg3A W (Proc.devRef .tc main_v96) = W (Proc.devRef .tc main_v96) ∧
    after seg3A W (Proc.devRef .tc main_v17) = W (Proc.devRef .tc main_v17) ∧
    after seg3A W (Proc.devRef .tc main_v49) = W (Proc.devRef .tc main_v49) ∧
    after seg3A W (Proc.devRef .tc main_v81) = W (Proc.devRef .tc main_v81) := by
  refine ⟨?_, ?_, ?_, ?_, ?_, ?_, ?_, ?_, ?_, ?_⟩ <;> (after_reads_simp; (try simp only [TRef.ofBuf_toBuf]); try rfl)

/-- The codes of the fourth level. -/
theorem seg3B_reads (W : Valuation τ sig (Elt Ideal)) :
    after seg3B W (Proc.devRef .tc main_v113) = codeOf (W (Proc.devRef .tc main_v112)) ∧
    after seg3B W (Proc.devRef .tc main_arg0) = W (Proc.devRef .tc main_arg0) ∧
    after seg3B W (Proc.devRef .tc main_arg1) = W (Proc.devRef .tc main_arg1) ∧
    after seg3B W (Proc.devRef .tc main_v95) = W (Proc.devRef .tc main_v95) ∧
    after seg3B W (Proc.devRef .tc main_v94) = W (Proc.devRef .tc main_v94) ∧
    after seg3B W (Proc.devRef .tc main_v96) = W (Proc.devRef .tc main_v96) ∧
    after seg3B W (Proc.devRef .tc main_v17) = W (Proc.devRef .tc main_v17) ∧
    after seg3B W (Proc.devRef .tc main_v49) = W (Proc.devRef .tc main_v49) ∧
    after seg3B W (Proc.devRef .tc main_v81) = W (Proc.devRef .tc main_v81) ∧
    after seg3B W (Proc.devRef .tc main_v98) = W (Proc.devRef .tc main_v98) := by
  refine ⟨?_, ?_, ?_, ?_, ?_, ?_, ?_, ?_, ?_, ?_⟩ <;> (after_reads_simp; (try simp only [TRef.ofBuf_toBuf]); try rfl)

/-- The rows that the fourth level looks up. -/
theorem seg3C_reads (W : Valuation τ sig (Elt Ideal)) :
    after seg3C W (Proc.devRef .tc main_v114) = takeOf (W (Proc.devRef .tc main_v98)) (W (Proc.devRef .tc main_v113)) ∧
    after seg3C W (Proc.devRef .tc main_arg0) = W (Proc.devRef .tc main_arg0) ∧
    after seg3C W (Proc.devRef .tc main_arg1) = W (Proc.devRef .tc main_arg1) ∧
    after seg3C W (Proc.devRef .tc main_v95) = W (Proc.devRef .tc main_v95) ∧
    after seg3C W (Proc.devRef .tc main_v94) = W (Proc.devRef .tc main_v94) ∧
    after seg3C W (Proc.devRef .tc main_v96) = W (Proc.devRef .tc main_v96) ∧
    after seg3C W (Proc.devRef .tc main_v17) = W (Proc.devRef .tc main_v17) ∧
    after seg3C W (Proc.devRef .tc main_v49) = W (Proc.devRef .tc main_v49) ∧
    after seg3C W (Proc.devRef .tc main_v81) = W (Proc.devRef .tc main_v81) ∧
    after seg3C W (Proc.devRef .tc main_v113) = W (Proc.devRef .tc main_v113) := by
  refine ⟨?_, ?_, ?_, ?_, ?_, ?_, ?_, ?_, ?_, ?_⟩ <;> after_reads_simp
  simp only [TRef.ofBuf_toBuf]
  unfold takeOf rowsOf
  simp -implicitDefEqProofs only [TRef.toBuf, TRef.ofBuf, cast_eq]

/-- The results of the fourth level. -/
theorem seg3D_reads (W : Valuation τ sig (Elt Ideal)) :
    after seg3D W (Proc.devRef .tc main_v126) = recOf (W (Proc.devRef .tc main_v94)) (W (Proc.devRef .tc main_v95)) (W (Proc.devRef .tc main_v114)) ∧
    after seg3D W (Proc.devRef .tc main_v127) = restOf (W (Proc.devRef .tc main_arg0)) (W (Proc.devRef .tc main_v94)) (W (Proc.devRef .tc main_v95)) (W (Proc.devRef .tc main_v114)) ∧
    after seg3D W (Proc.devRef .tc main_v128) = lossOf (W (Proc.devRef .tc main_v96)) (W (Proc.devRef .tc main_v95)) (W (Proc.devRef .tc main_v114)) ∧
    after seg3D W (Proc.devRef .tc main_arg0) = W (Proc.devRef .tc main_arg0) ∧
    after seg3D W (Proc.devRef .tc main_arg1) = W (Proc.devRef .tc main_arg1) ∧
    after seg3D W (Proc.devRef .tc main_v17) = W (Proc.devRef .tc main_v17) ∧
    after seg3D W (Proc.devRef .tc main_v49) = W (Proc.devRef .tc main_v49) ∧
    after seg3D W (Proc.devRef .tc main_v81) = W (Proc.devRef .tc main_v81) ∧
    after seg3D W (Proc.devRef .tc main_v113) = W (Proc.devRef .tc main_v113) := by
  refine ⟨?_, ?_, ?_, ?_, ?_, ?_, ?_, ?_, ?_⟩ <;> (after_reads_simp; (try simp only [TRef.ofBuf_toBuf]); try rfl)

/-- What the fourth level leaves behind. -/
theorem seg3_reads (W : Valuation τ sig (Elt Ideal)) :
    after seg3 W (Proc.devRef .tc main_v113) = levelCode (W (Proc.devRef .tc main_v95)) (book3 (W (Proc.devRef .tc main_arg1))) ∧
    after seg3 W (Proc.devRef .tc main_v126) = recOf (W (Proc.devRef .tc main_v94)) (W (Proc.devRef .tc main_v95)) (levelRow (W (Proc.devRef .tc main_v95)) (book3 (W (Proc.devRef .tc main_arg1)))) ∧
    after seg3 W (Proc.devRef .tc main_v127) = restOf (W (Proc.devRef .tc main_arg0)) (W (Proc.devRef .tc main_v94)) (W (Proc.devRef .tc main_v95)) (levelRow (W (Proc.devRef .tc main_v95)) (book3 (W (Proc.devRef .tc main_arg1)))) ∧
    after seg3 W (Proc.devRef .tc main_v128) = lossOf (W (Proc.devRef .tc main_v96)) (W (Proc.devRef .tc main_v95)) (levelRow (W (Proc.devRef .tc main_v95)) (book3 (W (Proc.devRef .tc main_arg1)))) ∧
    after seg3 W (Proc.devRef .tc main_arg0) = W (Proc.devRef .tc main_arg0) ∧
    after seg3 W (Proc.devRef .tc main_arg1) = W (Proc.devRef .tc main_arg1) ∧
    after seg3 W (Proc.devRef .tc main_v17) = W (Proc.devRef .tc main_v17) ∧
    after seg3 W (Proc.devRef .tc main_v49) = W (Proc.devRef .tc main_v49) ∧
    after seg3 W (Proc.devRef .tc main_v81) = W (Proc.devRef .tc main_v81) := by
  rw [seg3, after_append, after_append, after_append]
  have hD := seg3D_reads (after seg3C (after seg3B (after seg3A W)))
  have hC := seg3C_reads (after seg3B (after seg3A W))
  have hB := seg3B_reads (after seg3A W)
  have hA := seg3A_reads W
  simp only [hD, hC, hB, hA, levelCode, levelRow, and_self]

/-- The last operations stack the codes and leave the other results as they are. -/
theorem seg4_reads (W : Valuation τ sig (Elt Ideal)) :
    after seg4 W (Proc.devRef .tc main_v133) = stackOf (W (Proc.devRef .tc main_v17)) (W (Proc.devRef .tc main_v49)) (W (Proc.devRef .tc main_v81)) (W (Proc.devRef .tc main_v113)) ∧
    after seg4 W (Proc.devRef .tc main_v126) = W (Proc.devRef .tc main_v126) ∧
    after seg4 W (Proc.devRef .tc main_v128) = W (Proc.devRef .tc main_v128) ∧
    after seg4 W (Proc.devRef .tc main_arg0) = W (Proc.devRef .tc main_arg0) ∧
    after seg4 W (Proc.devRef .tc main_arg1) = W (Proc.devRef .tc main_arg1) := by
  refine ⟨?_, ?_, ?_, ?_, ?_⟩ <;> (after_reads_simp; (try simp only [TRef.ofBuf_toBuf]); try rfl)

/-- The results of the reference program, and its arguments, after its run. -/
theorem line_reads (W : Valuation τ sig (Elt Ideal)) :
    after line W (Proc.devRef .tc main_v126) = (stateAt (W (Proc.devRef .tc main_arg0)) (W (Proc.devRef .tc main_arg1)) 4).1 ∧
    after line W (Proc.devRef .tc main_v133) =
      stackOf (codesAt (W (Proc.devRef .tc main_arg0)) (W (Proc.devRef .tc main_arg1)) 0) (codesAt (W (Proc.devRef .tc main_arg0)) (W (Proc.devRef .tc main_arg1)) 1)
        (codesAt (W (Proc.devRef .tc main_arg0)) (W (Proc.devRef .tc main_arg1)) 2) (codesAt (W (Proc.devRef .tc main_arg0)) (W (Proc.devRef .tc main_arg1)) 3) ∧
    after line W (Proc.devRef .tc main_v128) = lossAt (W (Proc.devRef .tc main_arg0)) (W (Proc.devRef .tc main_arg1)) 4 ∧
    after line W (Proc.devRef .tc main_arg0) = W (Proc.devRef .tc main_arg0) ∧
    after line W (Proc.devRef .tc main_arg1) = W (Proc.devRef .tc main_arg1) := by
  rw [line_segs, after_append, after_append, after_append, after_append]
  obtain ⟨c0, r0, s0, l0, x0, b0⟩ := seg0_reads W
  obtain ⟨c1, r1, s1, l1, x1, b1, k10⟩ := seg1_reads (after seg0 W)
  obtain ⟨c2, r2, s2, l2, x2, b2, k20, k21⟩ := seg2_reads (after seg1 (after seg0 W))
  obtain ⟨c3, r3, s3, l3, x3, b3, k30, k31, k32⟩ := seg3_reads (after seg2 (after seg1 (after seg0 W)))
  obtain ⟨st, r4, l4, x4, b4⟩ := seg4_reads (after seg3 (after seg2 (after seg1 (after seg0 W))))
  simp only [c0, r0, s0, l0, x0, b0, c1, r1, s1, l1, x1, b1, k10, c2, r2, s2, l2, x2, b2, k20, k21, c3, r3, s3, l3, x3,
    b3, k30, k31, k32, st, r4, l4, x4, b4, stateAt, codesAt, lossAt, bookAt, and_self]

end Cert.Rvq.Ref
-- ==== Proof.ArgMinRef.lean ====
/- The reference's argmin: its fold over one row of distances ends at the first smallest. -/
module

public import proofs.«01_k».proof.Proof.Spec
public import proofs.«01_k».proof.Proof.RefRead
public import Idealize.ShloMosaic.Lib.IdealHost
public import Idealize.ShloMosaic.Lib.Pointwise

@[expose] public section

noncomputable section

namespace Cert.Rvq.Ref

open Idealize.ShloMosaic Idealize.SL.Sem Cert.ReferenceIdeal Cert.ReferenceIdeal.Facts₀

/-- A distance and its place, as the fold carries them. -/
def pairOf (g : Fin 1024 → ℝ) (j : Fin 1024) : EReal × BitVec 32 := ((g j : EReal), BitVec.ofNat 32 j.val)

/-- Two places compare as numbers the way their words compare. -/
theorem slt_ofNat (i j : Fin 1024) : BitVec.slt (BitVec.ofNat 32 i.val) (BitVec.ofNat 32 j.val) = decide (i < j) := by
  rw [BitVec.slt_eq_decide]
  have h : ∀ k : Fin 1024, (BitVec.ofNat 32 k.val).toInt = (k.val : ℤ) := by
    intro k
    have := k.isLt
    rw [BitVec.toInt_eq_toNat_of_lt] <;> simp only [BitVec.toNat_ofNat] <;> omega
  rw [h, h]
  simp only [Nat.cast_lt, Fin.val_fin_lt]

/-- One step between two distances keeps the better pair: the smaller, and between equals the earlier. -/
theorem step_pair (g : Fin 1024 → ℝ) (i j : Fin 1024) :
    reducer_argmin_f32_i32 (F := Ideal) (pairOf g i) (pairOf g j) =
      if g i < g j ∨ (g i = g j ∧ i < j) then pairOf g i else pairOf g j := by
  have h := slt_ofNat i j
  simp only [reducer_argmin_f32_i32, pairOf, Ideal.cmpf_def, Ideal.cmp, IntOp.cmpi, IntOp.ori, IntOp.andi, Scalar.select, h,
    EReal.coe_lt_coe_iff, EReal.coe_eq_coe_iff]
  rcases lt_trichotomy (g i) (g j) with hlt | heq | hgt
  · simp [hlt, hlt.ne]
  · by_cases hij : i < j <;> simp [heq, hij]
  · simp [hgt.not_gt, hgt.ne']

/-- The first step takes the pair it meets: the start is above every distance. -/
theorem step_top (g : Fin 1024 → ℝ) (j : Fin 1024) (w : BitVec 32) :
    reducer_argmin_f32_i32 (F := Ideal) ((⊤ : EReal), w) (pairOf g j) = pairOf g j := by
  simp [reducer_argmin_f32_i32, pairOf, Ideal.cmpf_def, Ideal.cmp, IntOp.ori, IntOp.andi, Scalar.select]

/-- The fold from the pair of a place ends at the pair of the best of that place and the places met. -/
theorem foldl_pairs (g : Fin 1024 → ℝ) (l : List (Fin 1024)) : ∀ j : Fin 1024,
    ∃ k ∈ j :: l, (l.map (pairOf g)).foldl (reducer_argmin_f32_i32 (F := Ideal)) (pairOf g j) = pairOf g k ∧
      ∀ i ∈ j :: l, g k < g i ∨ (g k = g i ∧ k ≤ i) := by
  induction l with
  | nil => intro j; exact ⟨j, by simp, rfl, by simp⟩
  | cons a l ih =>
    intro j
    rw [List.map_cons, List.foldl_cons, step_pair]
    by_cases h : g j < g a ∨ (g j = g a ∧ j < a)
    · rw [if_pos h]
      obtain ⟨k, hk, he, hb⟩ := ih j
      refine ⟨k, by simp only [List.mem_cons] at hk ⊢; tauto, he, fun i hi => ?_⟩
      simp only [List.mem_cons] at hi
      rcases hi with rfl | rfl | hi
      · exact hb _ (by simp)
      · have := hb j (by simp)
        rcases h with h | ⟨h, h'⟩ <;> rcases this with e | ⟨e, e'⟩
        · exact Or.inl (e.trans h)
        · exact Or.inl (e ▸ h)
        · exact Or.inl (h ▸ e)
        · exact Or.inr ⟨e.trans h, e'.trans h'.le⟩
      · exact hb _ (by simp [hi])
    · rw [if_neg h]
      obtain ⟨k, hk, he, hb⟩ := ih a
      refine ⟨k, by simp only [List.mem_cons] at hk ⊢; tauto, he, fun i hi => ?_⟩
      simp only [List.mem_cons] at hi
      rcases hi with rfl | rfl | hi
      · have := hb a (by simp)
        push Not at h
        rcases lt_or_eq_of_le h.1 with h1 | h1 <;> rcases this with e | ⟨e, e'⟩
        · exact Or.inl (e.trans h1)
        · exact Or.inl (e ▸ h1)
        · exact Or.inl (h1 ▸ e)
        · exact Or.inr ⟨e.trans h1, e'.trans (h.2 h1.symm)⟩
      · exact hb _ (by simp)
      · exact hb _ (by simp [hi])

/-- The fold from above every distance, over places among which every place is, ends at the first smallest. -/
theorem foldl_top (g : Fin 1024 → ℝ) (l : List (Fin 1024)) (hl : ∀ i, i ∈ l) (w : BitVec 32) :
    (l.map (pairOf g)).foldl (reducer_argmin_f32_i32 (F := Ideal)) ((⊤ : EReal), w) = pairOf g (firstMin g) := by
  cases l with
  | nil => exact absurd (hl 0) (by simp)
  | cons a l =>
    rw [List.map_cons, List.foldl_cons, step_top]
    obtain ⟨k, _, he, hb⟩ := foldl_pairs g l a
    rw [he, IsFirstMin.unique (fun i => hb i (hl i)) (firstMin_spec g)]

/-- The word of plus infinity. -/
theorem ofBits_inf : (FloatOps.ofBits .f32 0x7F800000#32 : Ideal .f32) = (⊤ : EReal) := by
  simp [Ideal.ofBits, Ideal.ieee]

/-- A place is known by its pair. -/
theorem pairOf_inj {g : Fin 1024 → ℝ} {i j : Fin 1024} (h : pairOf g i = pairOf g j) : i = j := by
  have h' : BitVec.ofNat 32 i.val = BitVec.ofNat 32 j.val := congrArg Prod.snd h
  have := congrArg BitVec.toNat h'
  have hi := i.isLt
  have hj := j.isLt
  simp only [BitVec.toNat_ofNat] at this
  exact Fin.ext (by omega)

/-- The fold over any list that holds the pairs of all places, and only such pairs. -/
theorem foldl_of_mem (g : Fin 1024 → ℝ) (L : List (EReal × BitVec 32)) (h1 : ∀ p ∈ L, ∃ c, pairOf g c = p)
    (h2 : ∀ c, pairOf g c ∈ L) (w : BitVec 32) :
    L.foldl (reducer_argmin_f32_i32 (F := Ideal)) ((⊤ : EReal), w) = pairOf g (firstMin g) := by
  obtain ⟨l, rfl⟩ : ∃ l : List (Fin 1024), l.map (pairOf g) = L := by
    clear h2
    induction L with
    | nil => exact ⟨[], rfl⟩
    | cons p L ih =>
      obtain ⟨c, hc⟩ := h1 p (by simp)
      obtain ⟨l, hl⟩ := ih fun q hq => h1 q (by simp [hq])
      exact ⟨c :: l, by rw [List.map_cons, hc, hl]⟩
  refine foldl_top g l (fun i => ?_) w
  obtain ⟨j, hj, he⟩ := List.mem_map.mp (h2 i)
  exact pairOf_inj he ▸ hj

/-- Dropping the second coordinate keeps the first. -/
theorem drop_val {m n : ℕ} (h : Shape.ReducesTo ⟨2, ![m, n]⟩ [1] ⟨1, ![m]⟩) (q : Shape.Idx ⟨2, ![m, n]⟩) :
    (h.drop q 0).val = (q 0).val :=
  Shape.ReducesTo.drop_apply_val_of_eq h q 0 0 (by simp [Shape.kept]) (by simp [Shape.kept]; rfl)

/-- The arg-min over the second axis of an array whose row `i` holds the real numbers `g`. -/
theorem argMin_apply {m : ℕ} (D : FVec Ideal ⟨2, ![m, 1024]⟩ .f32) (y : IVec ⟨2, ![m, 1024]⟩ 32) (h : Shape.ReducesTo ⟨2, ![m, 1024]⟩ [1] ⟨1, ![m]⟩)
    (ix : FVec Ideal S_ .f32) (iy : IVec S_ 32) (hix : ∀ q, ix q = (⊤ : EReal)) (i : Fin m) (g : Fin 1024 → ℝ)
    (hD : ∀ c : Fin 1024, D (ix2 i c) = (g c : EReal)) (hy : ∀ c : Fin 1024, y (ix2 i c) = BitVec.ofNat 32 c.val) :
    (Host.argReduce reducer_argmin_f32_i32 D y ix iy h h_S_ (ix1 i)).2 = BitVec.ofNat 32 (firstMin g).val := by
  rw [Ideal.argReduce_eq_reduce2, Host.reduce2_eq_foldl_fiber, hix, foldl_of_mem g]
  · rfl
  · intro p hp
    obtain ⟨n, hn, rfl⟩ := List.mem_map.mp hp
    have hn := of_decide_eq_true (List.mem_filter.mp hn).2
    generalize (Shape.rowMajor _).symm n = q at hn ⊢
    have h0 : q 0 = i := by
      have := congrArg (fun r => (r 0 : Fin m).val) hn
      exact Fin.ext ((drop_val h q).symm.trans this)
    obtain ⟨c, rfl⟩ : ∃ c : Fin 1024, q = ix2 i c := by
      refine ⟨q 1, ?_⟩
      funext a
      match a with
      | 0 => exact h0
      | 1 => rfl
    exact ⟨c, Prod.ext (hD c).symm (hy c).symm⟩
  · intro c
    refine List.mem_map.mpr ⟨Shape.rowMajor _ (ix2 i c), ?_, ?_⟩
    · refine List.mem_filter.mpr ⟨List.mem_finRange _, decide_eq_true ?_⟩
      rw [Equiv.symm_apply_apply]
      funext a
      match a with
      | 0 => exact Fin.ext (drop_val h _)
    · rw [Equiv.symm_apply_apply, hD, hy]; rfl

/-- The column numbers. -/
theorem iota_apply {m : ℕ} (i : Fin m) (c : Fin 1024) :
    iotaInDim ⟨2, ![m, 1024]⟩ 32 1 (ix2 i c) = BitVec.ofNat 32 c.val := rfl

/-- The codes, written out. -/
theorem codeOf_eq (D : FVec Ideal S16384x1024 .f32) : codeOf D = fun j =>
    (Host.argReduce reducer_argmin_f32_i32 D (iotaInDim S16384x1024 32 1) (constant S_ .f32 0x7F800000#32)
      (constantI S_ 32 0#32) reducesTo_S16384x1024_S16384_d1 h_S_ j).2 := rfl

/-- The code of a row whose distances are the real numbers `g`: the first place where they are smallest. -/
theorem codeOf_apply (D : FVec Ideal S16384x1024 .f32) (i : Fin 16384) (g : Fin 1024 → ℝ)
    (hD : ∀ c : Fin 1024, D (ix2 i c) = (g c : EReal)) : codeOf D (ix1 i) = BitVec.ofNat 32 (firstMin g).val :=
  (congrFun (codeOf_eq D) (ix1 i)).trans
    (argMin_apply D _ _ _ _ (fun _ => ofBits_inf) i g hD fun _ => iota_apply _ _)

end Cert.Rvq.Ref
-- ==== Proof.RefLevel.lean ====
/- What one level of the reference computes, entry by entry, on arrays of real numbers. -/
module

public import proofs.«01_k».proof.Proof.ArgMinRef

@[expose] public section

set_option maxRecDepth 16384

noncomputable section

namespace Cert.Rvq.Ref

open Idealize.ShloMosaic Idealize.SL.Sem Cert.ReferenceIdeal Cert.ReferenceIdeal.Facts₀

/-- The dimension numbers of a lookup of whole rows: one row number per result row. -/
abbrev rowDims (N C B : ℕ)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A lookup of whole rows, read at an entry: the row is the one that the row number names, where there is one. -/
theorem gather_rows_apply {α : Type} {N C B w : ℕ}
    (wf : GatherDims.WF ⟨2, ![N, C]⟩ ⟨2, ![B, 1]⟩ ⟨2, ![B, C]⟩ [1] [0] [] [0] [] 1 ![1, C])
    (x : Shape.Idx ⟨2, ![N, C]⟩ → α) (idx : IVec ⟨2, ![B, 1]⟩ w) (i : Fin B) (d : Fin C) (k : Fin N)
    (hk : (idx (ix2 i 0)).toInt = (k.val : ℤ)) :
    Host.gather (rowDims N C B wf) x idx (ix2 i d) = x (ix2 k d) := by
  unfold Host.gather
  congr 1
  funext a
  refine Fin.ext ?_
  show (rowDims N C B wf).start (ix2 i d) idx a + (rowDims N C B wf).batchCoord (ix2 i d) a
      + (rowDims N C B wf).offCoord (ix2 i d) a = _
  have hb : (rowDims N C B wf).batchCoord (ix2 i d) a = 0 :=
    GatherDims.batchCoord_eq_zero _ _ _ (fun h => by simp at h)
  rw [hb, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _
      (fun h => ((GatherDims.mem_sKept _ _).mp h).1 (List.mem_singleton.mpr rfl)), Nat.add_zero]
    unfold GatherDims.start
    rw [dif_pos (show (0 : Fin 2) ∈ (rowDims N C B wf).startIndexMap from List.mem_singleton.mpr rfl)]
    have hsi : (rowDims N C B wf).siIdx (ix2 i d) ⟨List.idxOf (0 : Fin 2) (rowDims N C B wf).startIndexMap,
        List.idxOf_lt_length_iff.2 (List.mem_singleton.mpr rfl)⟩ = ix2 i 0 := by
      funext b
      refine Fin.ext ?_
      match b with
      | ⟨0, _⟩ => rfl
      | ⟨1, _⟩ => rfl
    rw [hsi, hk]
    show min (k.val : ℤ).toNat (N - 1) = k.val
    have := k.isLt
    omega
  · have hs : (rowDims N C B wf).start (ix2 i d) idx (1 : Fin 2) = 0 := by
      unfold GatherDims.start
      exact dif_neg (show (1 : Fin 2) ∉ [(0 : Fin 2)] by decide)
    rw [hs, Nat.zero_add]
    rfl

/-- The word of two. -/
theorem ofBits_two : Ideal.ofBits .f32 0x40000000#32 = ((2 : ℝ) : EReal) := by
  simp [Ideal.ofBits, Ideal.ieee, -EReal.coe_mul]; norm_num

/-- The word of the number of entries of the input, 2 to the 22. -/
theorem ofBits_count : Ideal.ofBits .f32 0x4A800000#32 = ((4194304 : ℝ) : EReal) := by
  simp [Ideal.ofBits, Ideal.ieee, -EReal.coe_mul]; norm_num

/-- The distances of real rows to real codes are the real distances. -/
theorem distOf_apply (r : FVec Ideal S16384x256 .f32) (cb : FVec Ideal S1024x256 .f32) (R : Fin 16384 → Row) (C : Book)
    (hr : ∀ i d, r (ix2 i d) = (R i d : EReal)) (hc : ∀ j d, cb (ix2 j d) = (C j d : EReal)) (i : Fin 16384)
    (j : Fin 1024) : distOf r cb (ix2 i j) = (sqDist (R i) C j : EReal) := by
  unfold distOf
  pointwise
  simp only [hr, hc, ofBits_two, sqDist, ← EReal.coe_mul, ← coe_sum, ← EReal.coe_add, ← EReal.coe_sub]

/-- The codes that one level gives real rows. -/
theorem levelCode_apply (r : FVec Ideal S16384x256 .f32) (cb : FVec Ideal S1024x256 .f32) (R : Fin 16384 → Row)
    (C : Book) (hr : ∀ i d, r (ix2 i d) = (R i d : EReal)) (hc : ∀ j d, cb (ix2 j d) = (C j d : EReal))
    (i : Fin 16384) : levelCode r cb (ix1 i) = BitVec.ofNat 32 (code (R i) C).val :=
  codeOf_apply _ i _ fun j => distOf_apply r cb R C hr hc i j

/-- The word of a code is not negative and below the number of codes. -/
theorem code_word (k : Fin 1024) : (BitVec.ofNat 32 k.val).toInt = (k.val : ℤ) := by
  have := k.isLt
  rw [BitVec.toInt_eq_toNat_of_lt] <;> simp only [BitVec.toNat_ofNat] <;> omega

/-- The rows looked up are the rows that the codes name: no code is out of range. -/
theorem takeOf_apply (cb : FVec Ideal S1024x256 .f32) (k : IVec S16384 32) (K : Fin 16384 → Fin 1024)
    (hk : ∀ i, k (ix1 i) = BitVec.ofNat 32 (K i).val) (i : Fin 16384) (d : Fin 256) :
    takeOf cb k (ix2 i d) = cb (ix2 (K i) d) := by
  have h0 : IntOp.cmpi .slt (BitVec.ofNat 32 (K i).val) 0#32 = 0#1 := by
    have : ¬ ((K i).val : ℤ) < 0 := by omega
    simp [IntOp.cmpi, BitVec.slt_eq_decide, code_word, this]
  have h1 : IntOp.cmpi .sge (BitVec.ofNat 32 (K i).val) 0#32 = 1#1 := by
    simp [IntOp.cmpi, BitVec.sle_eq_decide, code_word]
  have h2 : IntOp.cmpi .sle (BitVec.ofNat 32 (K i).val) 1023#32 = 1#1 := by
    have : ((K i).val : ℤ) ≤ (1023#32).toInt := by
      have h := (K i).isLt
      rw [show (1023#32).toInt = 1023 by decide]
      omega
    simp only [IntOp.cmpi, BitVec.sle_eq_decide, code_word, this, decide_true]
    rfl
  have hrow : ∀ z, rowsOf k (ix2 i z) = BitVec.ofNat 32 (K i).val := by
    intro z
    unfold rowsOf
    pointwise
    simp [hk, h0, Scalar.select]
  have hg : Host.gather gather_S1024x256_S16384x1_S16384x256_1_0_n_n_0_1_1256 cb (rowsOf k) (ix2 i d) =
      cb (ix2 (K i) d) :=
    gather_rows_apply _ cb (rowsOf k) i d (K i) (by rw [hrow]; exact code_word _)
  unfold takeOf
  generalize rowsOf k = w at hrow hg ⊢
  pointwise
  rw [hg]
  simp only [Finset.univ_unique, Finset.fold_singleton, hrow, h1, h2, Scalar.select, IntOp.andi]
  exact if_pos (by decide)

/-- The chosen rows of one level. -/
theorem levelRow_apply (r : FVec Ideal S16384x256 .f32) (cb : FVec Ideal S1024x256 .f32) (R : Fin 16384 → Row)
    (C : Book) (hr : ∀ i d, r (ix2 i d) = (R i d : EReal)) (hc : ∀ j d, cb (ix2 j d) = (C j d : EReal))
    (i : Fin 16384) (d : Fin 256) : levelRow r cb (ix2 i d) = (C (code (R i) C) d : EReal) := by
  unfold levelRow
  rw [takeOf_apply cb _ (fun i => code (R i) C) (levelCode_apply r cb R C hr hc), hc]

/-- One level of the reconstruction: the chosen row is added. -/
theorem recOf_apply (a r q : FVec Ideal S16384x256 .f32) (i : Fin 16384) (d : Fin 256) (va vr vq : ℝ)
    (ha : a (ix2 i d) = (va : EReal)) (hr : r (ix2 i d) = (vr : EReal)) (hq : q (ix2 i d) = (vq : EReal)) :
    recOf a r q (ix2 i d) = ((va + vq : ℝ) : EReal) := by
  unfold recOf
  pointwise
  rw [ha, hr, hq]
  norm_cast
  ring_nf

/-- What one level leaves. -/
theorem restOf_apply (x a r q : FVec Ideal S16384x256 .f32) (i : Fin 16384) (d : Fin 256) (vx va vr vq : ℝ)
    (hx : x (ix2 i d) = (vx : EReal)) (ha : a (ix2 i d) = (va : EReal)) (hr : r (ix2 i d) = (vr : EReal))
    (hq : q (ix2 i d) = (vq : EReal)) : restOf x a r q (ix2 i d) = ((vx - (va + vq) : ℝ) : EReal) := by
  show x (ix2 i d) - recOf a r q (ix2 i d) = _
  rw [recOf_apply a r q i d va vr vq ha hr hq, hx, EReal.coe_sub]

/-- The mean square difference of two real arrays. -/
theorem meanOf_apply (q r : FVec Ideal S16384x256 .f32) (Q R : Fin 16384 → Row)
    (hq : ∀ i d, q (ix2 i d) = (Q i d : EReal)) (hr : ∀ i d, r (ix2 i d) = (R i d : EReal)) (j : S_.Idx) :
    meanOf q r j = (((∑ i, ∑ d, (Q i d - R i d) * (Q i d - R i d)) / 4194304 : ℝ) : EReal) := by
  unfold meanOf
  pointwise
  simp only [hq, hr, ofBits_count, ← EReal.coe_sub, ← EReal.coe_mul, ← coe_sum]
  rw [Ideal.div_coe (by norm_num), ← EReal.coe_mul]
  congr 1
  ring

end Cert.Rvq.Ref
-- ==== Proof.RefValue.lean ====
/- The reference on real inputs: its state before every level, its codes, and its loss are those of the quantization of
   every row. -/
module

public import proofs.«01_k».proof.Proof.RefLevel

@[expose] public section

set_option maxRecDepth 16384

noncomputable section

namespace Cert.Rvq.Ref

open Idealize.ShloMosaic
open Cert.ReferenceIdeal Cert.ReferenceIdeal.Facts₀

variable (x : FVec Ideal S16384x256 .f32) (b : FVec Ideal S4x1024x256 .f32) (X : Fin 16384 → Row) (B : ℕ → Book)

/-- The codebook of a level is the slice of the codebooks there. -/
theorem bookAt_apply (hb : ∀ (k : Fin 4) j d, b (ix3 k j d) = (B k.val j d : EReal)) (k : ℕ) (hk : k < 4)
    (j : Fin 1024) (d : Fin 256) : bookAt b k (ix2 j d) = (B k j d : EReal) := by
  match k, hk with
  | 0, _ => unfold bookAt book0; pointwise; exact hb 0 j d
  | 1, _ => unfold bookAt book1; pointwise; exact hb 1 j d
  | 2, _ => unfold bookAt book2; pointwise; exact hb 2 j d
  | 3, _ => unfold bookAt book3; pointwise; exact hb 3 j d

/-- The array of zeros is zero everywhere. -/
theorem zeros_apply (i : Fin 16384) (d : Fin 256) : zeros (ix2 i d) = ((0 : ℝ) : EReal) := by
  unfold zeros
  pointwise
  simp [Ideal.ofBits, Ideal.ieee]

/-- Before level `k` the reference holds the reconstruction by the first `k` codebooks and what it leaves. -/
theorem stateAt_apply (hx : ∀ i d, x (ix2 i d) = (X i d : EReal))
    (hb : ∀ (k : Fin 4) j d, b (ix3 k j d) = (B k.val j d : EReal)) (k : ℕ) (hk : k ≤ 4) :
    (∀ i d, (stateAt x b k).1 (ix2 i d) = (recon B (X i) k d : EReal)) ∧
      ∀ i d, (stateAt x b k).2 (ix2 i d) = (rest B (X i) k d : EReal) := by
  induction k with
  | zero => exact ⟨fun i d => zeros_apply i d, fun i d => by rw [rest_zero]; exact hx i d⟩
  | succ k ih =>
    obtain ⟨h1, h2⟩ := ih (by omega)
    have hq : ∀ i d, levelRow (stateAt x b k).2 (bookAt b k) (ix2 i d) =
        (B k (codeAt B (X i) k) d : EReal) :=
      levelRow_apply _ _ (fun i => rest B (X i) k) (B k) h2 (bookAt_apply b B hb k (by omega))
    exact ⟨fun i d => recOf_apply _ _ _ i d _ _ _ (h1 i d) (h2 i d) (hq i d),
      fun i d => restOf_apply _ _ _ _ i d _ _ _ _ (hx i d) (h1 i d) (h2 i d) (hq i d)⟩

/-- The codes of level `k`. -/
theorem codesAt_apply (hx : ∀ i d, x (ix2 i d) = (X i d : EReal))
    (hb : ∀ (k : Fin 4) j d, b (ix3 k j d) = (B k.val j d : EReal)) (k : ℕ) (hk : k < 4) (i : Fin 16384) :
    codesAt x b k (ix1 i) = BitVec.ofNat 32 (codeAt B (X i) k).val :=
  levelCode_apply _ _ (fun i => rest B (X i) k) (B k) (stateAt_apply x b X B hx hb k hk.le).2
    (bookAt_apply b B hb k hk) i

/-- The loss before level `k` is twice the mean square errors of the levels before. -/
theorem lossAt_apply (hx : ∀ i d, x (ix2 i d) = (X i d : EReal))
    (hb : ∀ (k : Fin 4) j d, b (ix3 k j d) = (B k.val j d : EReal)) (k : ℕ) (hk : k ≤ 4) (j : S_.Idx) :
    lossAt x b k j = ((∑ l ∈ Finset.range k, 2 * ((∑ i, err B (X i) l) / 4194304) : ℝ) : EReal) := by
  induction k with
  | zero => simp [lossAt, constant, Ideal.ofBits, Ideal.ieee]
  | succ k ih =>
    have h2 := (stateAt_apply x b X B hx hb k (by omega)).2
    have hq : ∀ i d, levelRow (stateAt x b k).2 (bookAt b k) (ix2 i d) =
        (B k (codeAt B (X i) k) d : EReal) :=
      levelRow_apply _ _ (fun i => rest B (X i) k) (B k) h2 (bookAt_apply b B hb k (by omega))
    have hm := meanOf_apply _ _ (fun i => B k (codeAt B (X i) k)) (fun i => rest B (X i) k) hq h2 j
    show lossAt x b k j + (meanOf _ _ j + meanOf _ _ j) = _
    rw [ih (by omega), hm, Finset.sum_range_succ, ← EReal.coe_add, ← EReal.coe_add, two_mul]
    rfl

/-- The codes side by side: column `l` is the codes of level `l`. -/
theorem stackOf_apply (K : Fin 4 → IVec S16384 32) (i : Fin 16384) (l : Fin 4) :
    stackOf (K 0) (K 1) (K 2) (K 3) (ix2 i l) = K l (ix1 i) := by
  unfold stackOf
  fin_cases l <;> pointwise

end Cert.Rvq.Ref
-- ==== Proof.RefResults.lean ====
/- The reference's results where its arguments are real numbers, spelt as the kernel's are. -/
module

public import proofs.«01_k».proof.Proof.RefValue
public import proofs.«01_k».proof.Proof.KerArrays

@[expose] public section

set_option maxRecDepth 16384

noncomputable section

namespace Cert.Rvq.Ref

open Idealize.ShloMosaic Idealize.ShloMosaic.TcCoe Idealize.SL.Sem Idealize.ShloMosaic.StableHlo Cert.ReferenceIdeal

variable (x : FVec Ideal S16384x256 .f32) (b : FVec Ideal S4x1024x256 .f32) (X : Fin 16384 → Row) (B : ℕ → Book)
  (hx : ∀ i d, x (ix2 i d) = ((X i d : ℝ) : EReal)) (hb : ∀ (k : Fin 4) j d, b (ix3 k j d) = ((B k.val j d : ℝ) : EReal))

include hx hb

/-- The reference's reconstructions are the kernel's. -/
theorem rec_eq : (stateAt x b 4).1 = Ker.recArr X B := by
  funext j
  obtain ⟨i, d, rfl⟩ : ∃ (i : Fin 16384) (d : Fin 256), j = ix2 i d := ⟨j 0, j 1, by blk_ext⟩
  exact (stateAt_apply x b X B hx hb 4 le_rfl).1 i d

/-- The reference's codes are the kernel's. -/
theorem codes_eq : stackOf (codesAt x b 0) (codesAt x b 1) (codesAt x b 2) (codesAt x b 3) = Ker.codeArr X B := by
  funext j
  obtain ⟨i, k, rfl⟩ : ∃ (i : Fin 16384) (k : Fin 4), j = ix2 i k := ⟨j 0, j 1, by blk_ext⟩
  exact (stackOf_apply (fun k => codesAt x b k.val) i k).trans (codesAt_apply x b X B hx hb k.val k.isLt i)

/-- The reference sums the means of the levels, the kernel takes the mean of the sum: the losses are equal. -/
theorem loss_eq :
    lossAt x b 4 = Ker.tailV (fun _ => ((∑ n ∈ Finset.range 4, ∑ i, err B (X i) n : ℝ) : EReal)) := by
  funext j
  rw [lossAt_apply x b X B hx hb 4 le_rfl j, Ker.tail_real _ _ (fun _ => rfl)]
  rw [Finset.sum_mul, Finset.sum_div]
  refine congrArg _ (Finset.sum_congr rfl fun n _ => ?_)
  ring

omit hx hb in
/-- Where the arguments are real numbers, the reference leaves the kernel's results. -/
theorem run_real (m : (ℓ : Loc nD τ sig) → Buf (Elt Ideal) ℓ) (g : Dev nD → PrngReg)
    (X : Dev nD → Fin 16384 → Row) (B : Dev nD → ℕ → Book)
    (hX : ∀ (c : Dev nD) i d, m ((c : Thread nD τ).loc main_arg0) (ix2 i d) = ((X c i d : ℝ) : EReal))
    (hB : ∀ (c : Dev nD) (k : Fin 4) j d, m ((c : Thread nD τ).loc main_arg1) (ix3 k j d) = ((B c k.val j d : ℝ) : EReal)) :
    θ_run defs (onTc (τ := τ) (main (F := Ideal))) ⟨m, fun _ => 0, g⟩ fun r => ∀ c : Dev nD,
      r.2.mem ((c : Thread nD τ).loc main_v126) = Ker.recArr (X c) (B c) ∧
      r.2.mem ((c : Thread nD τ).loc main_v133) = Ker.codeArr (X c) (B c) ∧
      r.2.mem ((c : Thread nD τ).loc main_v128) =
        Ker.tailV (fun _ => ((∑ n ∈ Finset.range 4, ∑ i, err (B c) (X c i) n : ℝ) : EReal)) ∧
      r.2.mem ((c : Thread nD τ).loc main_arg0) = m ((c : Thread nD τ).loc main_arg0) ∧
      r.2.mem ((c : Thread nD τ).loc main_arg1) = m ((c : Thread nD τ).loc main_arg1) := by
  refine (θ_run defs _ _).mono (fun r h c => ?_) (run m g)
  obtain ⟨h1, h2, h3, h4, h5⟩ := line_reads (launchContents m c)
  exact ⟨(h c main_v126).trans (h1.trans (rec_eq _ _ _ _ (hX c) (hB c))),
    (h c main_v133).trans (h2.trans (codes_eq _ _ _ _ (hX c) (hB c))),
    (h c main_v128).trans (h3.trans (loss_eq _ _ _ _ (hX c) (hB c))),
    (h c main_arg0).trans h4, (h c main_arg1).trans h5⟩

omit hx hb in
/-- The reference runs, keeps its arguments and leaves every semaphore at zero. -/
theorem frame (m : (ℓ : Loc nD τ sig) → Buf (Elt Ideal) ℓ) (g : Dev nD → PrngReg) :
    θ_run defs (onTc (τ := τ) (main (F := Ideal))) ⟨m, fun _ => 0, g⟩ fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1)) ∧ r.2.sem = fun _ => 0 := by
  refine (θ_run defs _ _).mono (fun r h => ⟨fun c => ?_, sem_eq_zero_of_no_sems (by decide) _⟩) (run m g)
  obtain ⟨-, -, -, h4, h5⟩ := line_reads (launchContents m c)
  exact ⟨(h c main_arg0).trans h4, (h c main_arg1).trans h5⟩

end Cert.Rvq.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Finite
public import proofs.«01_k».proof.Proof.KerArrays
public import proofs.«01_k».proof.Proof.RefResults

@[expose] public section

set_option maxRecDepth 16384

noncomputable section

namespace Cert.Proof

open Idealize.ShloMosaic Idealize.ShloMosaic.TcCoe Idealize.SL.Sem Cert.Rvq

/-- The rows of device `c`, as real numbers. -/
def rowsOf (m : (ℓ : Loc Cert.KernelIdeal.nD Cert.KernelIdeal.τ Cert.KernelIdeal.sig) → Buf (Elt Ideal) ℓ)
    (c : Dev Cert.KernelIdeal.nD) (i : Fin 16384) : Row :=
  fun d => EReal.toReal (m ((c : Thread Cert.KernelIdeal.nD Cert.KernelIdeal.τ).loc Cert.KernelIdeal.main_arg0) (ix2 i d))

/-- The codebooks of device `c`, as real numbers; there are four. -/
def booksOf (m : (ℓ : Loc Cert.KernelIdeal.nD Cert.KernelIdeal.τ Cert.KernelIdeal.sig) → Buf (Elt Ideal) ℓ)
    (c : Dev Cert.KernelIdeal.nD) (k : ℕ) : Book :=
  fun j d => EReal.toReal (m ((c : Thread Cert.KernelIdeal.nD Cert.KernelIdeal.τ).loc Cert.KernelIdeal.main_arg1)
    (ix3 (Fin.ofNat 4 k) j d))

/-- Over the extended reals, from finite arguments, the kernel's three results are the reference's. -/
theorem results_equal (hF : Cert.Pre_finite.Facts) :
    Cert.algebraic_KernelIdeal_ReferenceIdeal_pre_finite (hKernelIdeal := Cert.KernelIdeal.Gen.facts)
      (hReferenceIdeal := Cert.ReferenceIdeal.Gen.facts) (hPre_finite := hF) := by
  intro m g m' g' hp ha
  have hX : ∀ (c : Dev Cert.KernelIdeal.nD) i d,
      m ((c : Thread Cert.KernelIdeal.nD Cert.KernelIdeal.τ).loc Cert.KernelIdeal.main_arg0) (ix2 i d) =
        ((rowsOf m c i d : ℝ) : EReal) :=
    fun c i d => (finite_real _ _ hF (hp c)).1 i d
  have hB : ∀ (c : Dev Cert.KernelIdeal.nD) (k : Fin 4) j d,
      m ((c : Thread Cert.KernelIdeal.nD Cert.KernelIdeal.τ).loc Cert.KernelIdeal.main_arg1) (ix3 k j d) =
        ((booksOf m c k.val j d : ℝ) : EReal) := by
    intro c k j d
    have hk : Fin.ofNat 4 k.val = k := Fin.ext (Nat.mod_eq_of_lt k.isLt)
    unfold booksOf
    rw [hk]
    exact (finite_real _ _ hF (hp c)).2 k j d
  exact ⟨_, _, _, Ker.run m g (rowsOf m) (booksOf m) hX hB,
    Ref.run_real m' g' (rowsOf m) (booksOf m) (fun c i d => (congrFun (ha c).1 (ix2 i d)).trans (hX c i d))
      (fun c k j d => (congrFun (ha c).2 (ix3 k j d)).trans (hB c k j d))⟩

/-- Everything claimed: the frames, the ideal program being the kernel's own text, and the equal results. -/
theorem claim : Cert.Claim :=
  ⟨Cert.Kernel.Gen.facts, Cert.KernelIdeal.Gen.facts, Cert.ReferenceIdeal.Gen.facts, finiteFacts,
    fun m g _ => Cert.Kernel.Gen.frame m g, fun m g _ => Cert.KernelIdeal.Gen.frame m g,
    fun m g _ => Cert.KernelIdeal.Gen.frame m g, fun m g _ => Ref.frame m g, fun m g _ => Ref.frame m g, trivial,
    results_equal finiteFacts⟩

end Cert.Proof

end
